-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S2x256 : Shape := ⟨2, ![2, 256]⟩
abbrev S8x2x256 : Shape := ⟨3, ![8, 2, 256]⟩
abbrev S8 : Shape := ⟨1, ![8]⟩
abbrev S_ : Shape := ⟨0, ![]⟩
abbrev S256 : Shape := ⟨1, ![256]⟩
abbrev S1x256 : Shape := ⟨2, ![1, 256]⟩
abbrev S1x1x256 : Shape := ⟨3, ![1, 1, 256]⟩
abbrev S1 : Shape := ⟨1, ![1]⟩
abbrev S1x2x256 : Shape := ⟨3, ![1, 2, 256]⟩
abbrev S8x1x256 : Shape := ⟨3, ![8, 1, 256]⟩
abbrev S8x256 : Shape := ⟨2, ![8, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .bf16⟩
  | .hbm, ⟨1, _⟩ => ⟨S2x256, .f32⟩
  | .local _ .vmem, ⟨0, _⟩ => ⟨S256x256, .bf16⟩
  | .local _ .vmem, ⟨1, _⟩ => ⟨S2x256, .f32⟩
  | .local _ .vmem, ⟨2, _⟩ => ⟨S8x2x256, .f32⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v106 : Index := Scalar.indexCast v2
  let c0_65 : Index := 0#32
  let c0_66 : Index := 0#32
  ![v106.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v114 : Index := Scalar.indexCast v2
  let c1 : Index := 1#32
  let c0_68 : Index := 0#32
  ![v114.toNat, 1, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let c0_i32_81 : BitVec 32 := 0#32
  ![v2.toNat, 0, 0]
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_70 : BitVec 32 := 1#32
  let v118 : BitVec 32 := Scalar.addi v2 c1_i32_70
  let c8_i32_71 : BitVec 32 := 8#32
  let c0_i32_72 : BitVec 32 := 0#32
  let v119 : BitVec 1 := Scalar.cmpi .eq c8_i32_71 c0_i32_72
  let c1_i32_73 : BitVec 32 := 1#32
  let v120 : BitVec 32 := Scalar.select v119 c1_i32_73 c8_i32_71
  let v121 : BitVec 32 := Scalar.remsi v118 v120
  let c0_i32_75 : BitVec 32 := 0#32
  let v123 : BitVec 1 := Scalar.cmpi .slt v121 c0_i32_75
  let c0_i32_76 : BitVec 32 := 0#32
  let v124 : BitVec 1 := Scalar.cmpi .slt v120 c0_i32_76
  let v125 : BitVec 1 := Scalar.xori v123 v124
  let c0_i32_74 : BitVec 32 := 0#32
  let v122 : BitVec 1 := Scalar.cmpi .ne v121 c0_i32_74
  let v126 : BitVec 1 := Scalar.andi v125 v122
  let v127 : BitVec 32 := Scalar.addi v121 v120
  let v128 : BitVec 32 := Scalar.select v126 v127 v121
  let c1_i32_78 : BitVec 32 := 1#32
  let v129 : BitVec 32 := Scalar.muli v128 c1_i32_78
  let v130 : BitVec 32 := Scalar.addi c0_i32_79 v129
  v130.toNat
def k0_dev9 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v139 : BitVec 32 := Scalar.addi v2 c2_i32_84
  let c8_i32_85 : BitVec 32 := 8#32
  let c0_i32_86 : BitVec 32 := 0#32
  let v140 : BitVec 1 := Scalar.cmpi .eq c8_i32_85 c0_i32_86
  let c1_i32_87 : BitVec 32 := 1#32
  let v141 : BitVec 32 := Scalar.select v140 c1_i32_87 c8_i32_85
  let v142 : BitVec 32 := Scalar.remsi v139 v141
  let c0_i32_89 : BitVec 32 := 0#32
  let v144 : BitVec 1 := Scalar.cmpi .slt v142 c0_i32_89
  let c0_i32_90 : BitVec 32 := 0#32
  let v145 : BitVec 1 := Scalar.cmpi .slt v141 c0_i32_90
  let v146 : BitVec 1 := Scalar.xori v144 v145
  let c0_i32_88 : BitVec 32 := 0#32
  let v143 : BitVec 1 := Scalar.cmpi .ne v142 c0_i32_88
  let v147 : BitVec 1 := Scalar.andi v146 v143
  let v148 : BitVec 32 := Scalar.addi v142 v141
  let v149 : BitVec 32 := Scalar.select v147 v148 v142
  let c1_i32_92 : BitVec 32 := 1#32
  let v150 : BitVec 32 := Scalar.muli v149 c1_i32_92
  let v151 : BitVec 32 := Scalar.addi c0_i32_93 v150
  v151.toNat
def k0_dev10 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_98 : BitVec 32 := 3#32
  let v160 : BitVec 32 := Scalar.addi v2 c3_i32_98
  let c8_i32_99 : BitVec 32 := 8#32
  let c0_i32_100 : BitVec 32 := 0#32
  let v161 : BitVec 1 := Scalar.cmpi .eq c8_i32_99 c0_i32_100
  let c1_i32_101 : BitVec 32 := 1#32
  let v162 : BitVec 32 := Scalar.select v161 c1_i32_101 c8_i32_99
  let v163 : BitVec 32 := Scalar.remsi v160 v162
  let c0_i32_103 : BitVec 32 := 0#32
  let v165 : BitVec 1 := Scalar.cmpi .slt v163 c0_i32_103
  let c0_i32_104 : BitVec 32 := 0#32
  let v166 : BitVec 1 := Scalar.cmpi .slt v162 c0_i32_104
  let v167 : BitVec 1 := Scalar.xori v165 v166
  let c0_i32_102 : BitVec 32 := 0#32
  let v164 : BitVec 1 := Scalar.cmpi .ne v163 c0_i32_102
  let v168 : BitVec 1 := Scalar.andi v167 v164
  let v169 : BitVec 32 := Scalar.addi v163 v162
  let v170 : BitVec 32 := Scalar.select v168 v169 v163
  let c1_i32_106 : BitVec 32 := 1#32
  let v171 : BitVec 32 := Scalar.muli v170 c1_i32_106
  let v172 : BitVec 32 := Scalar.addi c0_i32_107 v171
  v172.toNat
def k0_dev11 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_112 : BitVec 32 := 4#32
  let v181 : BitVec 32 := Scalar.addi v2 c4_i32_112
  let c8_i32_113 : BitVec 32 := 8#32
  let c0_i32_114 : BitVec 32 := 0#32
  let v182 : BitVec 1 := Scalar.cmpi .eq c8_i32_113 c0_i32_114
  let c1_i32_115 : BitVec 32 := 1#32
  let v183 : BitVec 32 := Scalar.select v182 c1_i32_115 c8_i32_113
  let v184 : BitVec 32 := Scalar.remsi v181 v183
  let c0_i32_117 : BitVec 32 := 0#32
  let v186 : BitVec 1 := Scalar.cmpi .slt v184 c0_i32_117
  let c0_i32_118 : BitVec 32 := 0#32
  let v187 : BitVec 1 := Scalar.cmpi .slt v183 c0_i32_118
  let v188 : BitVec 1 := Scalar.xori v186 v187
  let c0_i32_116 : BitVec 32 := 0#32
  let v185 : BitVec 1 := Scalar.cmpi .ne v184 c0_i32_116
  let v189 : BitVec 1 := Scalar.andi v188 v185
  let v190 : BitVec 32 := Scalar.addi v184 v183
  let v191 : BitVec 32 := Scalar.select v189 v190 v184
  let c1_i32_120 : BitVec 32 := 1#32
  let v192 : BitVec 32 := Scalar.muli v191 c1_i32_120
  let v193 : BitVec 32 := Scalar.addi c0_i32_121 v192
  v193.toNat
def k0_dev12 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_126 : BitVec 32 := 5#32
  let v202 : BitVec 32 := Scalar.addi v2 c5_i32_126
  let c8_i32_127 : BitVec 32 := 8#32
  let c0_i32_128 : BitVec 32 := 0#32
  let v203 : BitVec 1 := Scalar.cmpi .eq c8_i32_127 c0_i32_128
  let c1_i32_129 : BitVec 32 := 1#32
  let v204 : BitVec 32 := Scalar.select v203 c1_i32_129 c8_i32_127
  let v205 : BitVec 32 := Scalar.remsi v202 v204
  let c0_i32_131 : BitVec 32 := 0#32
  let v207 : BitVec 1 := Scalar.cmpi .slt v205 c0_i32_131
  let c0_i32_132 : BitVec 32 := 0#32
  let v208 : BitVec 1 := Scalar.cmpi .slt v204 c0_i32_132
  let v209 : BitVec 1 := Scalar.xori v207 v208
  let c0_i32_130 : BitVec 32 := 0#32
  let v206 : BitVec 1 := Scalar.cmpi .ne v205 c0_i32_130
  let v210 : BitVec 1 := Scalar.andi v209 v206
  let v211 : BitVec 32 := Scalar.addi v205 v204
  let v212 : BitVec 32 := Scalar.select v210 v211 v205
  let c1_i32_134 : BitVec 32 := 1#32
  let v213 : BitVec 32 := Scalar.muli v212 c1_i32_134
  let v214 : BitVec 32 := Scalar.addi c0_i32_135 v213
  v214.toNat
def k0_dev13 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_140 : BitVec 32 := 6#32
  let v223 : BitVec 32 := Scalar.addi v2 c6_i32_140
  let c8_i32_141 : BitVec 32 := 8#32
  let c0_i32_142 : BitVec 32 := 0#32
  let v224 : BitVec 1 := Scalar.cmpi .eq c8_i32_141 c0_i32_142
  let c1_i32_143 : BitVec 32 := 1#32
  let v225 : BitVec 32 := Scalar.select v224 c1_i32_143 c8_i32_141
  let v226 : BitVec 32 := Scalar.remsi v223 v225
  let c0_i32_145 : BitVec 32 := 0#32
  let v228 : BitVec 1 := Scalar.cmpi .slt v226 c0_i32_145
  let c0_i32_146 : BitVec 32 := 0#32
  let v229 : BitVec 1 := Scalar.cmpi .slt v225 c0_i32_146
  let v230 : BitVec 1 := Scalar.xori v228 v229
  let c0_i32_144 : BitVec 32 := 0#32
  let v227 : BitVec 1 := Scalar.cmpi .ne v226 c0_i32_144
  let v231 : BitVec 1 := Scalar.andi v230 v227
  let v232 : BitVec 32 := Scalar.addi v226 v225
  let v233 : BitVec 32 := Scalar.select v231 v232 v226
  let c1_i32_148 : BitVec 32 := 1#32
  let v234 : BitVec 32 := Scalar.muli v233 c1_i32_148
  let v235 : BitVec 32 := Scalar.addi c0_i32_149 v234
  v235.toNat
def k0_dev14 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_154 : BitVec 32 := 7#32
  let v244 : BitVec 32 := Scalar.addi v2 c7_i32_154
  let c8_i32_155 : BitVec 32 := 8#32
  let c0_i32_156 : BitVec 32 := 0#32
  let v245 : BitVec 1 := Scalar.cmpi .eq c8_i32_155 c0_i32_156
  let c1_i32_157 : BitVec 32 := 1#32
  let v246 : BitVec 32 := Scalar.select v245 c1_i32_157 c8_i32_155
  let v247 : BitVec 32 := Scalar.remsi v244 v246
  let c0_i32_159 : BitVec 32 := 0#32
  let v249 : BitVec 1 := Scalar.cmpi .slt v247 c0_i32_159
  let c0_i32_160 : BitVec 32 := 0#32
  let v250 : BitVec 1 := Scalar.cmpi .slt v246 c0_i32_160
  let v251 : BitVec 1 := Scalar.xori v249 v250
  let c0_i32_158 : BitVec 32 := 0#32
  let v248 : BitVec 1 := Scalar.cmpi .ne v247 c0_i32_158
  let v252 : BitVec 1 := Scalar.andi v251 v248
  let v253 : BitVec 32 := Scalar.addi v247 v246
  let v254 : BitVec 32 := Scalar.select v252 v253 v247
  let c1_i32_162 : BitVec 32 := 1#32
  let v255 : BitVec 32 := Scalar.muli v254 c1_i32_162
  let v256 : BitVec 32 := Scalar.addi c0_i32_163 v255
  v256.toNat
def k0_off5 (d0 : Dev nD) (c1_i32_168 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v265 : BitVec 32 := Scalar.addi v2 c1_i32_168
  let c8_i32_169 : BitVec 32 := 8#32
  let c0_i32_170 : BitVec 32 := 0#32
  let v266 : BitVec 1 := Scalar.cmpi .eq c8_i32_169 c0_i32_170
  let c1_i32_171 : BitVec 32 := 1#32
  let v267 : BitVec 32 := Scalar.select v266 c1_i32_171 c8_i32_169
  let v268 : BitVec 32 := Scalar.remsi v265 v267
  let c0_i32_173 : BitVec 32 := 0#32
  let v270 : BitVec 1 := Scalar.cmpi .slt v268 c0_i32_173
  let c0_i32_174 : BitVec 32 := 0#32
  let v271 : BitVec 1 := Scalar.cmpi .slt v267 c0_i32_174
  let v272 : BitVec 1 := Scalar.xori v270 v271
  let c0_i32_172 : BitVec 32 := 0#32
  let v269 : BitVec 1 := Scalar.cmpi .ne v268 c0_i32_172
  let v273 : BitVec 1 := Scalar.andi v272 v269
  let v274 : BitVec 32 := Scalar.addi v268 v267
  let v275 : BitVec 32 := Scalar.select v273 v274 v268
  ![v275.toNat]
def k0_off6 (d0 : Dev nD) (c1_i32_168 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v265 : BitVec 32 := Scalar.addi v2 c1_i32_168
  let c8_i32_169 : BitVec 32 := 8#32
  let c0_i32_170 : BitVec 32 := 0#32
  let v266 : BitVec 1 := Scalar.cmpi .eq c8_i32_169 c0_i32_170
  let c1_i32_171 : BitVec 32 := 1#32
  let v267 : BitVec 32 := Scalar.select v266 c1_i32_171 c8_i32_169
  let v268 : BitVec 32 := Scalar.remsi v265 v267
  let c0_i32_173 : BitVec 32 := 0#32
  let v270 : BitVec 1 := Scalar.cmpi .slt v268 c0_i32_173
  let c0_i32_174 : BitVec 32 := 0#32
  let v271 : BitVec 1 := Scalar.cmpi .slt v267 c0_i32_174
  let v272 : BitVec 1 := Scalar.xori v270 v271
  let c0_i32_172 : BitVec 32 := 0#32
  let v269 : BitVec 1 := Scalar.cmpi .ne v268 c0_i32_172
  let v273 : BitVec 1 := Scalar.andi v272 v269
  let v274 : BitVec 32 := Scalar.addi v268 v267
  let v275 : BitVec 32 := Scalar.select v273 v274 v268
  let c0_i32_178 : BitVec 32 := 0#32
  let c0_i32_179 : BitVec 32 := 0#32
  ![v275.toNat, 0, 0]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x256 : Shape := ⟨2, ![2048, 256]⟩
abbrev S_ : Shape := ⟨0, ![]⟩
abbrev S256 : Shape := ⟨1, ![256]⟩
abbrev S1x256 : Shape := ⟨2, ![1, 256]⟩
abbrev S2x256 : Shape := ⟨2, ![2, 256]⟩

abbrev nBuf : Space → Nat
  | .hbm => 13
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x256, .i32⟩
  | .hbm, ⟨2, _⟩ => ⟨S_, .bf16⟩
  | .hbm, ⟨3, _⟩ => ⟨S_, .i32⟩
  | .hbm, ⟨4, _⟩ => ⟨S256, .bf16⟩
  | .hbm, ⟨5, _⟩ => ⟨S256, .i32⟩
  | .hbm, ⟨6, _⟩ => ⟨S256, .f32⟩
  | .hbm, ⟨7, _⟩ => ⟨S_, .bf16⟩
  | .hbm, ⟨8, _⟩ => ⟨S256, .bf16⟩
  | .hbm, ⟨9, _⟩ => ⟨S256, .f32⟩
  | .hbm, ⟨10, _⟩ => ⟨S1x256, .f32⟩
  | .hbm, ⟨11, _⟩ => ⟨S1x256, .f32⟩
  | .hbm, ⟨12, _⟩ => ⟨S2x256, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Protocol.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.Transfers

/-!
# The exchange of the candidates, as a protocol

Eight devices, each with a buffer of eight slots (slot `s` : the pair of rows device `s` computes). Device `c`
fills its own slot `c`, tells the seven others that their slot on it may be written (one unit on each one's barrier
semaphore), waits for the seven units, copies its slot to slot `c` of every other device, waits for the
seven slots it gets and last for its own seven copies to have been read.

Under the rounds library: one round, duties named by devices.

* the barrier cell of `c` has one duty of one unit for every other device `d`, whose payload is slot `c` of
  device `d` (any contents) and that `d`'s receive cell for `c` is at round 0;
* the receive cell of `c` for `s ≠ c` has one duty of a slot's credit, paid by `s`, whose payload is slot
  `s` of `c` holding the gathered candidates;
* the `q`-th send cell of `c` has one duty, paid by `c`, whose payload gives back the share of `c`'s own slot
  lent to the copy.
-/

@[expose] public section

set_option maxRecDepth 16384

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The exchange's rounds, its duties named by devices. -/
abbrev UB : Type := URounds (GSem nD τ sig) (Dev nD)
/-- The pipeline's rounds beside the exchange's. -/
abbrev UU : Type := UR sig nD τ × UB

local notation "𝕄" => MT nD τ sig Unit (Elt F) ℕ UU ℕ

/-- Where the pipeline's rounds lie. -/
abbrev EP : Emb (UR sig nD τ) (MT nD τ sig Unit (Elt F) ℕ UU ℕ) := embL
/-- Where the exchange's rounds lie. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices around -/

set_option backward.proofsInPublic true in
/-- The device `q + 1` places after `c`. -/
def nb (c : Dev nD) (q : Fin 7) : Dev nD := ⟨(c.val + q.val + 1) % 8, Nat.mod_lt _ (by decide)⟩

/-- The seven devices around `c` are distinct, -/
theorem nb_inj (c : Dev nD) : Function.Injective (nb c) := by
  intro a b; revert c a b; decide
/-- `nb c` as an embedding. -/
def nbE (c : Dev nD) : Fin 7 ↪ Dev nD := ⟨nb c, nb_inj c⟩
/-- none of them is `c`, -/
theorem nb_ne (c : Dev nD) (q : Fin 7) : nb c q ≠ c := by revert c q; decide
/-- and `c` is none of them. -/
theorem ne_nb (c : Dev nD) (q : Fin 7) : c ≠ nb c q := fun h => nb_ne c q h.symm
/-- Every other device is one of the seven around. -/
theorem erase_eq (c : Dev nD) : (Finset.univ : Finset (Dev nD)).erase c = Finset.univ.map (nbE c) := by revert c; decide

set_option backward.proofsInPublic true in
/-- How many places before `d` the device `c ≠ d` lies, less one (`d = nb c (gap c d)`). -/
def gap (c d : Dev nD) : Fin 7 := ⟨(d.val + 7 - c.val) % 8 % 7, Nat.mod_lt _ (by decide)⟩
/-- The device at `d`'s distance from `c` is `d`. -/
theorem nb_gap (c d : Dev nD) (h : d ≠ c) : nb c (gap c d) = d := by revert c d; decide
/-- The distance of the `q`-th device around is `q`. -/
theorem gap_nb (c : Dev nD) (q : Fin 7) : gap c (nb c q) = q := by revert c q; decide

/-! ## Sums and conjunctions over the seven, one at a time -/

/-- The indices from `n` on. -/
def up (n : ℕ) : Finset (Fin 7) := Finset.univ.filter fun q => n ≤ q.val
/-- The indices before `n`. -/
def below (n : ℕ) : Finset (Fin 7) := Finset.univ.filter fun q => q.val < n

/-- From 0 on: all seven. -/
theorem up_zero : up 0 = Finset.univ := by decide
/-- From 7 on: none. -/
theorem up_seven : up 7 = ∅ := by decide
/-- Before 0: none. -/
theorem below_zero : below 0 = ∅ := by decide
/-- Before 7: all seven. -/
theorem below_seven : below 7 = Finset.univ := by decide
/-- From `q` on: `q` and those after it. -/
theorem up_eq (q : Fin 7) : up q.val = insert q (up (q.val + 1)) := by revert q; decide
/-- `q` is not after itself. -/
theorem up_not (q : Fin 7) : q ∉ up (q.val + 1) := by revert q; decide
/-- Up to `q`: `q` and those before it. -/
theorem below_eq (q : Fin 7) : below (q.val + 1) = insert q (below q.val) := by revert q; decide
/-- `q` is not before itself. -/
theorem below_not (q : Fin 7) : q ∉ below q.val := by revert q; decide

section Peel
variable {M : Type} [URA M]

/-- The next index taken out of what is left. -/
theorem bigSep_up (Φ : Fin 7 → sProp M) (q : Fin 7) {n n' : ℕ} (hn : q.val = n) (hn' : n + 1 = n') :
    bigSep (up n) Φ = iprop(Φ q ∗ bigSep (up n') Φ) := by
  subst hn hn'; rw [up_eq]; exact bigSep_insert (up_not q)
/-- The next index put to what is done. -/
theorem bigSep_below (Φ : Fin 7 → sProp M) (q : Fin 7) {n n' : ℕ} (hn : q.val = n) (hn' : n + 1 = n') :
    bigSep (below n') Φ = iprop(Φ q ∗ bigSep (below n) Φ) := by
  subst hn hn'; rw [below_eq]; exact bigSep_insert (below_not q)
/-- All devices are `c` and the seven around. -/
theorem bigSep_around (c : Dev nD) (Φ : Dev nD → sProp M) :
    bigSep Finset.univ Φ = iprop(Φ c ∗ bigSep Finset.univ fun q => Φ (nb c q)) := by
  refine (bigSep_erase (Finset.mem_univ c)).trans ?_
  rw [erase_eq, bigSep_map]; rfl
/-- The eight indices are zero and the seven after. -/
theorem bigSep_succ (Φ : Fin 8 → sProp M) :
    bigSep Finset.univ Φ = iprop(Φ 0 ∗ bigSep Finset.univ fun q : Fin 7 => Φ q.succ) := by
  refine (bigSep_erase (Finset.mem_univ (0 : Fin 8))).trans ?_
  rw [show (Finset.univ : Finset (Fin 8)).erase 0 = Finset.univ.map (Fin.succEmb 7) by decide, bigSep_map]; rfl
end Peel

/-! ## The memrefs and cells -/

/-- The block's staging buffer. -/
abbrev xM : Memref sig .tc .vmem S256x256 .bf16 := Memref.whole cc0_stg0_0
/-- The result's staging buffer. -/
abbrev oM : Memref sig .tc .vmem S2x256 .f32 := Memref.whole cc0_stg1_0
/-- The candidates. -/
abbrev gM : Memref sig .tc .vmem S8x2x256 .f32 := Memref.whole cc0_scratch0
/-- Slot `s` of the candidates, as the kernel writes it. -/
abbrev slotM (s : Dev nD) : Memref sig .tc .vmem S2x256 .f32 :=
  (gM.slice (Rect.unit (s := S8x2x256) (k0_off4 s) S1x2x256.size (k0_off4_inb s)) (fun _ => rfl)).squeeze S2x256 squeezes_S1x2x256_S2x256

/-- The barrier semaphore. -/
abbrev barS : Sem sig := (SemArray.scalar (sig.barrier 0 rfl) : Sems sig S_).sem
set_option backward.proofsInPublic true in
/-- The semaphore a copy is counted on where it is sent from, -/
def sendS (p : Fin 8) : DmaSem sig := ⟨2 + p.val, by have := p.isLt; show 2 + p.val < 18; omega⟩
set_option backward.proofsInPublic true in
/-- and where it lands, by sender. -/
def recvS (s : Dev nD) : DmaSem sig := ⟨10 + s.val, by have := s.isLt; show 10 + s.val < 18; change s.val < 8 at this; omega⟩

/-- The barrier cell of `c`, -/
abbrev barCell (c : Dev nD) : GSem nD τ sig := ((c : Thread nD τ), .reg barS)
/-- its send cells, -/
abbrev sendCell (c : Dev nD) (p : Fin 8) : GSem nD τ sig := ((c : Thread nD τ), .dma (sendS p))
/-- its receive cells. -/
abbrev recvCell (c s : Dev nD) : GSem nD τ sig := ((c : Thread nD τ), .dma (recvS s))

/-- The kernel's own semaphores: the eight send cells and the eight receive cells; -/
abbrev osem : Fin 8 ⊕ Fin 8 → SemLoc sig
  | .inl p => .dma (sendS p)
  | .inr s => .dma (recvS s)
/-- all the cells of a device: the barrier's and those. -/
abbrev csem : Unit ⊕ (Fin 8 ⊕ Fin 8) → SemLoc sig
  | .inl _ => .reg barS
  | .inr k => osem k
/-- The index of a device's cells. -/
abbrev CK : Type := Unit ⊕ (Fin 8 ⊕ Fin 8)
/-- A cell by device and index. -/
abbrev kcell (ck : Dev nD × CK) : GSem nD τ sig := ((ck.1 : Thread nD τ), csem ck.2)

/-- A slot's credit. -/
abbrev N : ℕ := (slotM 0).view.dmaCredit
/-- A slot's credit is positive. -/
theorem N_pos : 0 < N := View.dmaCredit_pos _ (by decide)

/-! ## Contents -/

/-- The block device `s` computes on. -/
def xstg (s : Dev nD) : (cc0_stg0_0 : Ref sig .tc).ty.Contents (Elt F) :=
  (win0_0.blk (0 : Fin 1)).view.read (Elt F) ((s₀ m ρ).mem ((s : Thread nD τ).loc main_arg0))

/-- The kernel's word for its position on the axis. -/
def myW (s : Dev nD) : BitVec 32 := Scalar.remsi (Scalar.divsi (Dev.word s) 1#32) 8#32

/-- The first row device `s` computes: the columns' maxima; -/
def rowMax (s : Dev nD) : S1x1x256.Idx → Elt F .f32 := k0_pay3 (k0_pay1 (xstg m ρ s))
/-- the second: the least row number attaining each, counted over all devices' rows. -/
def rowIdx (s : Dev nD) : S1x1x256.Idx → Elt F .f32 :=
  k0_pay4 (myW s) (k0_pay1 (xstg m ρ s)) (iota .tc S256x256 32 [0] iota_S256x256_d0_w32)

/-- The candidates of all devices: slot `s` holds what device `s` computes. -/
def gath : (cc0_scratch0 : Ref sig .tc).ty.Contents (Elt F) :=
  fun (i : S8x2x256.Idx) => if (i 1).val = 0 then rowMax m ρ (i 0) (ValueIdx.ix3 (0 : Fin 1) (0 : Fin 1) (i 2))
    else rowIdx m ρ (i 0) (ValueIdx.ix3 (0 : Fin 1) (0 : Fin 1) (i 2))

/-- Slot `s` of device `c` at share `q` holding `f`'s. -/
def slotPts (c s : Dev nD) (q : PosShare TreeShare) (f : (cc0_scratch0 : Ref sig .tc).ty.Contents (Elt F)) : sProp 𝕄 :=
  (slotM s).view.loc (c : Thread nD τ) ↦[(slotM s).view.set]{q} f

omit [FloatOps F] in
instance slotPts_storable (c s : Dev nD) (q) (f) : BI.Storable (upEmb : UEmb _ 𝕄) (slotPts (F := F) c s q f) := by
  unfold slotPts; infer_instance

/-- The share of the own slot lent to the `q`-th copy; -/
abbrev lent (q : Fin 7) : PosShare TreeShare := Transfers.shareTok fullShare 7 q
/-- what stays. -/
abbrev kept : PosShare TreeShare := Transfers.shareDrop fullShare 7

/-! ## The schedule -/

/-- What device `d`'s unit on `c`'s barrier cell hands over. -/
def barPay (c d : Dev nD) : sProp 𝕄 := iprop((∃ f, slotPts d c fullShare f) ∗ reached ER (recvCell d c) 0)

set_option backward.proofsInPublic true in
/-- The index of the copy counted on send semaphore `x`. -/
def sendIx (x : DmaSem sig) : Fin 7 := ⟨(x.val + 4) % 7, Nat.mod_lt _ (by decide)⟩

/-- The duties of the cell `sm` of device `c`. -/
def dutiesOf (c : Dev nD) : SemLoc sig → Finset (Dev nD)
  | .reg _ => Finset.univ.erase c
  | .dma x => if 10 ≤ x.val then (Finset.univ.filter fun s => s ≠ c ∧ recvS s = x) else if 3 ≤ x.val then {c} else ∅
/-- A duty's units. -/
def amountOf : SemLoc sig → ℕ
  | .reg _ => 1
  | .dma _ => N
/-- A duty's payload. -/
def payOf (c d : Dev nD) : SemLoc sig → sProp 𝕄
  | .reg _ => barPay c d
  | .dma x => if 10 ≤ x.val then slotPts c d fullShare (gath m ρ) else slotPts c c (lent (sendIx x)) (gath m ρ)

/-- The exchange's schedule: one round, round 0, of the TensorCores' cells. -/
def exRd : Rounds.Schedule (GSem nD τ sig) (Dev nD) 𝕄 where
  duties g r := if r = 0 ∧ g.1.2 = .tc then dutiesOf g.1.1 g.2 else ∅
  unitless _ := False
  amount g _ _ := amountOf g.2
  payload g _ d := payOf m ρ g.1.1 d g.2
  amount_pos g _ _ _ := by
    rcases g with ⟨_, x | x⟩
    · exact Nat.one_pos
    · exact N_pos

instance exRd_payload_storable (g : GSem nD τ sig) (r : ℕ) (d : Dev nD) :
    BI.Storable (upEmb : UEmb _ 𝕄) ((exRd (F := F) m ρ).payload g r d) := by
  rcases g with ⟨c, x | x⟩
  · show BI.Storable upEmb (barPay c.1 d)
    unfold barPay; infer_instance
  · show BI.Storable upEmb (if 10 ≤ x.val then slotPts c.1 d fullShare (gath m ρ) else slotPts c.1 c.1 (lent (sendIx x)) (gath m ρ))
    split <;> infer_instance

section Sched
variable (c s : Dev nD) (q : Fin 7)

/-- The duties of round 0. -/
theorem duties_at (sm : SemLoc sig) : (exRd (F := F) m ρ).duties ((c : Thread nD τ), sm) 0 = dutiesOf c sm := by
  dsimp only [exRd]; exact if_pos ⟨rfl, rfl⟩
/-- There is no duty in a later round. -/
theorem duties_later (g : GSem nD τ sig) : ∀ r, 1 ≤ r → (exRd (F := F) m ρ).duties g r = ∅ :=
  fun r hr => by dsimp only [exRd]; exact if_neg fun h => by omega
/-- The receive cell for a device around has one duty, that device's. -/
theorem dutiesOf_recv : dutiesOf c (.dma (recvS (nb c q))) = {nb c q} := by revert c q; decide +kernel
/-- The same, by the device. -/
theorem dutiesOf_recv' (h : s ≠ c) : dutiesOf c (.dma (recvS s)) = {s} := by revert c s; decide +kernel
/-- The receive cell for the device itself has no duty. -/
theorem dutiesOf_own : dutiesOf c (.dma (recvS c)) = ∅ := by revert c; decide +kernel
/-- The send cell of a copy has one duty, the device's own. -/
theorem dutiesOf_send : dutiesOf c (.dma (sendS q.succ)) = {c} := by revert c q; decide +kernel
/-- The first send cell is not used. -/
theorem dutiesOf_send0 : dutiesOf c (.dma (sendS 0)) = ∅ := by revert c; decide +kernel
/-- The copy counted on the send cell `q + 1` is the `q`-th. -/
theorem sendIx_eq : sendIx (sendS q.succ) = q := by revert q; decide

/-- A barrier cell's round is seven units. -/
theorem expect_bar : (exRd (F := F) m ρ).expect (barCell c) 0 = 7 := by
  unfold Schedule.expect Schedule.amountOf
  rw [duties_at]
  show ∑ d ∈ Finset.univ.erase c, 1 = 7
  rw [Finset.sum_const, Finset.card_erase_of_mem (Finset.mem_univ _)]; rfl
/-- A receive cell's round is one slot's credit. -/
theorem expect_recv : (exRd (F := F) m ρ).expect (recvCell c (nb c q)) 0 = N := by
  unfold Schedule.expect Schedule.amountOf
  rw [duties_at, dutiesOf_recv, Finset.sum_singleton]; rfl
/-- A send cell's round is one slot's credit. -/
theorem expect_send : (exRd (F := F) m ρ).expect (sendCell c q.succ) 0 = N := by
  unfold Schedule.expect Schedule.amountOf
  rw [duties_at, dutiesOf_send, Finset.sum_singleton]; rfl

/-- A landing hands over its slot, with the sender's candidate in it. -/
theorem payload_recv (d : Dev nD) : (exRd (F := F) m ρ).payload (recvCell c s) 0 d = slotPts c d fullShare (gath m ρ) := by
  show (if 10 ≤ (recvS s).val then _ else _) = _
  exact if_pos (Nat.le_add_right _ _)
/-- A copy read hands back the share lent to it. -/
theorem payload_send (d : Dev nD) : (exRd (F := F) m ρ).payload (sendCell c q.succ) 0 d = slotPts c c (lent q) (gath m ρ) := by
  show (if 10 ≤ (sendS q.succ).val then _ else _) = _
  rw [if_neg (by revert q; decide), sendIx_eq]

/-- What the barrier's round hands over: slot `c` of each of the seven around. -/
theorem rest_bar : bigSep ((exRd (F := F) m ρ).duties (barCell c) 0 \ ∅) (fun d => (exRd (F := F) m ρ).payload (barCell c) 0 d)
    = bigSep Finset.univ fun q => barPay c (nb c q) := by
  rw [Finset.sdiff_empty, duties_at]
  show bigSep (Finset.univ.erase c) (fun d => barPay c d) = _
  rw [erase_eq, bigSep_map]; rfl
/-- What a receive cell's round hands over: the sender's slot, filled. -/
theorem rest_recv : bigSep ((exRd (F := F) m ρ).duties (recvCell c (nb c q)) 0 \ ∅) (fun d => (exRd (F := F) m ρ).payload (recvCell c (nb c q)) 0 d)
    = slotPts c (nb c q) fullShare (gath m ρ) := by
  rw [Finset.sdiff_empty, duties_at, dutiesOf_recv, bigSep_singleton, payload_recv]
/-- What a send cell's round hands over: the share lent. -/
theorem rest_send : bigSep ((exRd (F := F) m ρ).duties (sendCell c q.succ) 0 \ ∅) (fun d => (exRd (F := F) m ρ).payload (sendCell c q.succ) 0 d)
    = slotPts c c (lent q) (gath m ρ) := by
  rw [Finset.sdiff_empty, duties_at, dutiesOf_send, bigSep_singleton, payload_send]

end Sched

/-! ## What each core owes; the levels -/

/-- The units `c` still owes the barrier cells of the devices from the `n`-th on; -/
def Obar (c : Dev nD) (n : ℕ) : CellTallies nD τ sig Unit := ∑ q ∈ up n, tallyAt (barCell (nb c q)) () 1
/-- the credit it still owes their receive cells. -/
def Orecv (c : Dev nD) (n : ℕ) : CellTallies nD τ sig Unit := ∑ q ∈ up n, tallyAt (recvCell (nb c q) c) () N
/-- What `c` owes at launch. -/
def O₀ (c : Dev nD) : CellTallies nD τ sig Unit := Orecv c 0 + Obar c 0

/-- The barrier units owed from `q` on: one to the `q`-th device, and those after. -/
theorem Obar_peel (c : Dev nD) (q : Fin 7) {n n' : ℕ} (hn : q.val = n) (hn' : n + 1 = n') :
    Obar c n = Obar c n' + tallyAt (barCell (nb c q)) () 1 := by
  subst hn hn'; unfold Obar; rw [up_eq, Finset.sum_insert (up_not q), add_comm]
/-- The credit owed from `q` on: one slot's to the `q`-th device, and that after. -/
theorem Orecv_peel (c : Dev nD) (q : Fin 7) {n n' : ℕ} (hn : q.val = n) (hn' : n + 1 = n') :
    Orecv c n = Orecv c n' + tallyAt (recvCell (nb c q) c) () N := by
  subst hn hn'; unfold Orecv; rw [up_eq, Finset.sum_insert (up_not q), add_comm]
/-- After the seventh signal no unit is owed. -/
theorem Obar_seven (c : Dev nD) : Obar c 7 = 0 := by unfold Obar; rw [up_seven, Finset.sum_empty]
/-- After the seventh copy no credit is owed. -/
theorem Orecv_seven (c : Dev nD) : Orecv c 7 = 0 := by unfold Orecv; rw [up_seven, Finset.sum_empty]

/-- Units are counted on the TensorCores' cells. -/
def L (g : GSem nD τ sig) : Finset Unit := if g.1.2 = .tc then {()} else ∅
/-- Barrier cells at 1, receive cells at 2, everything else (staging, send) at 0. -/
def lv (g : GSem nD τ sig) (_ : Unit) : ℕ :=
  match g.2 with
  | .reg _ => 1
  | .dma x => if 10 ≤ x.val then 2 else 0

/-- Nothing is counted on other cores' cells. -/
theorem L_of_ne (g : GSem nD τ sig) (h : g.1.2 ≠ .tc) : L g = ∅ := if_neg h
/-- Units are counted on a TensorCore's cells. -/
theorem L_tc (c : Dev nD) (sm : SemLoc sig) : L ((c : Thread nD τ), sm) = {()} := if_pos rfl
/-- A receive cell lies at level 2. -/
theorem lv_recv (c s : Dev nD) : lv (recvCell c s) () = 2 := if_pos (Nat.le_add_right _ _)

/-- A sum of tallies is positive only where one of them is. -/
theorem sum_pos_at {S : Finset (Fin 7)} {f : Fin 7 → GSem nD τ sig} {k : ℕ} {g : GSem nD τ sig} {u : Unit}
    (h : 0 < (∑ q ∈ S, tallyAt (f q) () k : CellTallies nD τ sig Unit) g u) : ∃ q, g = f q := by
  rw [Finset.sum_apply, Finsupp.finset_sum_apply] at h
  obtain ⟨q, _, hq⟩ := Finset.exists_ne_zero_of_sum_ne_zero (Nat.pos_iff_ne_zero.mp h)
  refine ⟨q, ?_⟩
  by_contra hn
  rw [tallyAt_apply, if_neg fun h' => hn h'.1] at hq
  exact hq rfl

/-- What is owed at launch lies on barrier cells and receive cells. -/
theorem O₀_pos {c : Dev nD} {g : GSem nD τ sig} {u : Unit} (h : 0 < O₀ c g u) :
    (∃ q, g = recvCell (nb c q) c) ∨ ∃ q, g = barCell (nb c q) := by
  unfold O₀ at h
  rw [Pi.add_apply, Finsupp.add_apply] at h
  rcases Nat.add_pos_iff_pos_or_pos.mp h with h | h
  · exact .inl (sum_pos_at h)
  · exact .inr (sum_pos_at h)

omit [FloatOps F] in
/-- A staging cell may be waited on whatever is owed. -/
theorem mayWait_stage (c : Dev nD) (x : DmaSem sig) (hx : x.val < 10) (O : CellTallies nD τ sig Unit) (hO : O = O₀ c ∨ O = 0) :
    (levAts L lv : sProp 𝕄) ⊢ MayWait (c : Thread nD τ) (.dma x) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨q, rfl⟩ | ⟨q, rfl⟩ <;> exact Finset.mem_singleton_self _)
      (fun p hp => by rw [Finset.mem_singleton.mp hp]; show (if 10 ≤ x.val then 2 else 0) ≤ 0; rw [if_neg (by omega)])
      (fun g u hg => by
        rcases O₀_pos hg with ⟨q, rfl⟩ | ⟨q, rfl⟩
        · rw [lv_recv]; decide
        · exact Nat.one_pos)
  · rw [MayWait_zero]; iintro -; iempintro

omit [FloatOps F] in
/-- At its barrier wait a device owes receive credit only: receive cells, above its barrier cell. -/
theorem mayWait_bar (c : Dev nD) : (levAts L lv : sProp 𝕄) ⊢ MayWait (c : Thread nD τ) (.reg barS) () (Orecv c 0) :=
  MayOwe.of_cut (L := L) (lev := lv) 1 (fun p hp => by rw [Finset.mem_singleton.mp hp, L_tc]; exact Finset.mem_singleton_self _)
    (fun g u hg => by obtain ⟨q, rfl⟩ := sum_pos_at hg; exact Finset.mem_singleton_self _)
    (fun p hp => by rw [Finset.mem_singleton.mp hp]; exact le_refl _)
    (fun g u hg => by obtain ⟨q, rfl⟩ := sum_pos_at hg; rw [lv_recv]; decide)

end Cert.ExchangeProof

end
-- ==== Proof.Steps.lean ====
module

public import proofs.«01_k».proof.Proof.Protocol

/-!
# The exchange's steps

One lemma for each kind of step the kernel takes seven times — a unit on a barrier cell, a copy, a wait for a slot,
a wait for a copy to have been read — each stated at the `q`-th of the seven devices around and taking that one
out of what is left (`up`) or putting it to what is done (`below`).
-/

@[expose] public section

set_option maxRecDepth 16384

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No variant bounds a loop: the kernel has none. -/
abbrev 𝒱₀ : Variants := Variants.none

/-! ## What every device knows -/

/-- Every cell's invariant, under the names `K`, and that every cell is at round 0. -/
def records (K : Dev nD × CK → ℕ) : sProp 𝕄 :=
  iprop((bigSep Finset.univ fun ck : Dev nD × CK => cellInv ER (exRd m ρ) (K ck) (kcell ck))
    ∗ bigSep Finset.univ fun ck : Dev nD × CK => reached ER (kcell ck) 0)

instance records_persistent (K : Dev nD × CK → ℕ) : BI.Persistent (records m ρ K) := by unfold records; infer_instance

/-- Every cell's invariant is among the records. -/
theorem inv_at (K : Dev nD × CK → ℕ) (ck : Dev nD × CK) : records m ρ K ⊢ cellInv ER (exRd m ρ) (K ck) (kcell ck) := by
  unfold records
  iintro ⟨#HI, -⟩
  iapply (show (bigSep Finset.univ fun ck : Dev nD × CK => (cellInv ER (exRd m ρ) (K ck) (kcell ck) : sProp 𝕄))
    ⊢ cellInv ER (exRd m ρ) (K ck) (kcell ck) from bigSep_elim (Finset.mem_univ ck))
  iexact HI
/-- That a cell is at round 0 is among the records. -/
theorem reached_at (K : Dev nD × CK → ℕ) (ck : Dev nD × CK) : records m ρ K ⊢ reached ER (kcell ck) 0 := by
  unfold records
  iintro ⟨-, #HR⟩
  iapply (show (bigSep Finset.univ fun ck : Dev nD × CK => (reached ER (kcell ck) 0 : sProp 𝕄))
    ⊢ reached ER (kcell ck) 0 from bigSep_elim (Finset.mem_univ ck))
  iexact HR

/-- The index of the barrier cell, -/
abbrev bIx (c : Dev nD) : Dev nD × CK := (c, .inl ())
/-- of a send cell, -/
abbrev sIx (c : Dev nD) (p : Fin 8) : Dev nD × CK := (c, .inr (.inl p))
/-- of a receive cell. -/
abbrev rIx (c s : Dev nD) : Dev nD × CK := (c, .inr (.inr s))

/-! ## What is left and what is done -/

/-- Device `c` owes `O`, whatever waits it recorded. -/
def owing (c : Dev nD) (O : CellTallies nD τ sig Unit) : sProp 𝕄 := iprop(∃ W, owes (c : Thread nD τ) O W)

/-- For the units left to give: the duty's token and the slot handed over. -/
def sigRes (c : Dev nD) (n : ℕ) : sProp 𝕄 :=
  bigSep (up n) fun q => iprop(dutyTok ER (barCell (nb c q)) 0 c ∗ ∃ f, slotPts c (nb c q) fullShare f)

/-- For the copies left: the tokens of the two duties, the share lent, the slot written. -/
def sendRes (c : Dev nD) (n : ℕ) : sProp 𝕄 :=
  bigSep (up n) fun q => iprop((dutyTok ER (sendCell c q.succ) 0 c ∗ dutyTok ER (recvCell (nb c q) c) 0 c)
    ∗ slotPts c c (lent q) (gath m ρ) ∗ ∃ f, slotPts (nb c q) c fullShare f)
/-- From the copies started: the credit of their send cells. -/
def sendCred (c : Dev nD) (n : ℕ) : sProp 𝕄 := bigSep (below n) fun q => cred (tallyAt (sendCell c q.succ) () N)

/-- For the slots left to wait for: the receive cell's credit and the position there. -/
def recvRes (c : Dev nD) (n : ℕ) : sProp 𝕄 :=
  bigSep (up n) fun q => iprop(cred (tallyAt (recvCell c (nb c q)) () N) ∗ atPos ER (recvCell c (nb c q)) 0 ∅ 0)
/-- From the slots arrived: the slot, gathered, and the cell closed at zero. -/
def recvGot (c : Dev nD) (n : ℕ) : sProp 𝕄 :=
  bigSep (below n) fun q => iprop(slotPts c (nb c q) fullShare (gath m ρ) ∗ semVal (recvCell c (nb c q)) 0)

/-- For the copies left to see read: the send cell's credit and the position there. -/
def readRes (c : Dev nD) (n : ℕ) : sProp 𝕄 :=
  bigSep (up n) fun q => iprop(cred (tallyAt (sendCell c q.succ) () N) ∗ atPos ER (sendCell c q.succ) 0 ∅ 0)
/-- From the copies read: the share lent back and the cell closed at zero. -/
def readGot (c : Dev nD) (n : ℕ) : sProp 𝕄 :=
  bigSep (below n) fun q => iprop(slotPts c c (lent q) (gath m ρ) ∗ semVal (sendCell c q.succ) 0)

/-- A device between its units: what every device knows, what it owes, what is left to give. -/
def sigSt (K : Dev nD × CK → ℕ) (c : Dev nD) (n : ℕ) : sProp 𝕄 := iprop(records m ρ K ∗ owing c (Orecv c 0 + Obar c n) ∗ sigRes (F := F) c n)
/-- A device between its copies. -/
def sendSt (K : Dev nD × CK → ℕ) (c : Dev nD) (n : ℕ) : sProp 𝕄 := iprop(records m ρ K ∗ owing c (Orecv c n) ∗ sendRes m ρ c n ∗ sendCred (F := F) c n)
/-- A device between its waits for slots. -/
def recvSt (K : Dev nD × CK → ℕ) (c : Dev nD) (n : ℕ) : sProp 𝕄 := iprop(records m ρ K ∗ owing c 0 ∗ recvRes (F := F) c n ∗ recvGot m ρ c n)
/-- A device between its waits for its copies to have been read. -/
def readSt (K : Dev nD × CK → ℕ) (c : Dev nD) (n : ℕ) : sProp 𝕄 := iprop(records m ρ K ∗ owing c 0 ∗ readRes (F := F) c n ∗ readGot m ρ c n)

section Steps

variable (K : Dev nD × CK → ℕ) (c : Dev nD) (q : Fin 7) {n n' : ℕ} (hn : q.val = n) (hn' : n + 1 = n')
variable {α : Type} {Q : α → sProp (MT nD τ sig Unit (Elt F) ℕ UU ℕ)} {k : PUnit → Prog (TpuEff nD τ sig (Elt F) Λ₀ .tc) α}

include hn hn' in
/-- A unit on the `q`-th device's barrier cell: `c` hands over its slot for it. -/
theorem step_signal {dv : Dev nD} (hd : dv = nb c q) {a : ℤ} (ha : a = ((1 : ℕ) : ℤ)) :
    sigSt m ρ K c n
      ⊢ iprop((sigSt m ρ K c n' -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dv : Thread nD τ) barS a) k) Q) := by
  subst hd ha
  unfold sigSt sigRes owing
  rw [bigSep_up _ q hn hn', Obar_peel c q hn hn', ← add_assoc]
  iintro ⟨#HR, ⟨%W, HO⟩, ⟨Ht, Hs⟩, Hrest⟩ Hk
  iapply (Rounds.wp_signal 𝒱₀ ER (exRd m ρ) (c : Thread nD τ) none (dst := (nb c q : Thread nD τ)) (κ := K (bIx (nb c q)))
      (d := c) (by rw [duties_at]; exact Finset.mem_erase.mpr ⟨ne_nb c q, Finset.mem_univ _⟩) (k' := 1) rfl () (Orecv c 0 + Obar c n') rfl)
    $$ [HO Ht Hs]
  · isplitr; · iapply (inv_at m ρ K (bIx (nb c q))); iexact HR
    isplitl [HO]; · iexact HO
    isplitl [Ht]; · iexact Ht
    isplitl [Hs]
    · rw [show (exRd (F := F) m ρ).payload (barCell (nb c q)) 0 c = barPay (nb c q) c from rfl]
      unfold barPay
      isplitl [Hs]; · iexact Hs
      iapply (reached_at m ρ K (rIx c (nb c q))); iexact HR
    · iapply (reached_at m ρ K (bIx (nb c q))); iexact HR
  iintro HO
  iapply Hk
  isplitr; · iexact HR
  isplitl [HO]; · iexists W; iexact HO
  iexact Hrest

omit [FloatOps F] in
/-- A slot written whole with what the same slot of `f` reads is the slot holding `f`'s. -/
theorem slot_written (c s : Dev nD) (fd f : (cc0_scratch0 : Ref sig .tc).ty.Contents (Elt F)) :
    ((slotM s).view.loc (c : Thread nD τ) ↦[(slotM s).view.set]{fullShare} ((slotM s).view.write (Elt F) fd ((slotM s).view.read (Elt F) f) Finset.univ) : sProp 𝕄)
      = slotPts c s fullShare f := by
  unfold slotPts
  refine pointsTo_congr fun i hi => ?_
  obtain ⟨x, -, rfl⟩ := Finset.mem_map.mp hi
  rw [View.write_emb_of_mem _ _ (Finset.mem_univ x)]
  unfold View.read
  rw [cast_cast, cast_eq]

include hn hn' in
/-- The copy to the `q`-th device. -/
theorem step_send {dv : Dev nD} (hd : dv = nb c q) {sS sR : DmaSem sig} (hsS : sS = sendS q.succ) (hsR : sR = recvS c)
    {hsc : (slotM c : Memref sig (Dev.tc dv : Thread nD τ).2.kind .vmem S2x256 .f32).view.ref.isScScratch = false}
    {hsrc : (slotM c).view.WordExact} {hdst : (slotM c).view.WordExact}
    {hsem : DmaTarget.Typed .vmem (.dma sR) (.remote (Dev.tc dv : Thread nD τ) (slotM c) (.dma sS) hsc)} :
    sendSt m ρ K c n
      ⊢ iprop((sendSt m ρ K c n' -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc dv : Thread nD τ) (slotM c) (.dma sS) hsc) (.dma sR) hsrc hdst hsem) k) Q) := by
  subst hd hsS hsR
  unfold sendSt sendRes sendCred owing
  rw [bigSep_up _ q hn hn', Orecv_peel c q hn hn', bigSep_below _ q hn hn']
  iintro ⟨#HR, ⟨%W, HO⟩, ⟨⟨⟨Ht, Htr⟩, Hsrc, ⟨%fd, Hdst⟩⟩, Hrest⟩, Hcr⟩ Hk
  iapply (Rounds.wp_send_pointsTo 𝒱₀ ER (exRd m ρ) (c : Thread nD τ) none (κ₁ := K (sIx c q.succ)) (κ₂ := K (rIx (nb c q) c))
    (r₁ := 0) (r₂ := 0) (d₁ := c) (d₂ := c) (q := lent q) (fs := gath m ρ) (fd := fd)
    (by rw [duties_at, dutiesOf_send]; exact Finset.mem_singleton_self _)
    (by rw [duties_at, dutiesOf_recv' (nb c q) c (ne_nb c q)]; exact Finset.mem_singleton_self _)
    () () N rfl rfl rfl (Orecv c n') rfl (W := W)
    (by rw [payload_send]; exact BI.Entails.refl _)
    (by rw [payload_recv, slot_written])) $$ [Ht Htr Hsrc Hdst HO]
  · isplitr; · iapply (inv_at m ρ K (sIx c q.succ)); iexact HR
    isplitr; · iapply (inv_at m ρ K (rIx (nb c q) c)); iexact HR
    isplitl [Hsrc]; · unfold slotPts; iexact Hsrc
    isplitl [Hdst]; · unfold slotPts; iexact Hdst
    isplitl [HO]; · iexact HO
    isplitl [Ht]; · iexact Ht
    isplitr; · iapply (reached_at m ρ K (sIx c q.succ)); iexact HR
    isplitl [Htr]; · iexact Htr
    iapply (reached_at m ρ K (rIx (nb c q) c)); iexact HR
  iintro ⟨Hc, HO⟩
  iapply Hk
  isplitr; · iexact HR
  isplitl [HO]; · iexists W; iexact HO
  isplitl [Hrest]; · iexact Hrest
  isplitl [Hc] <;> iassumption

/-- A wait on a cell of `c` whose round is one duty of a slot's credit, nothing being owed; the cell closed. -/
theorem wait_close (ck : CK) {x : DmaSem sig} (hx : csem ck = .dma x) {P : sProp 𝕄}
    (hexp : (exRd (F := F) m ρ).expect ((c : Thread nD τ), .dma x) 0 = N)
    (hrest : bigSep ((exRd (F := F) m ρ).duties ((c : Thread nD τ), .dma x) 0 \ ∅) (fun d => (exRd (F := F) m ρ).payload ((c : Thread nD τ), .dma x) 0 d) = P)
    {src dst : Memref sig .tc .vmem S2x256 .f32} (hN : dst.view.dmaCredit = N) {h1 : src.view.WordExact} {h2 : dst.view.WordExact} :
    iprop(records m ρ K ∗ owing c 0 ∗ cred (tallyAt ((c : Thread nD τ), .dma x) () N) ∗ atPos ER ((c : Thread nD τ), .dma x) 0 ∅ 0)
      ⊢ iprop((owing c 0 ∗ P ∗ semVal ((c : Thread nD τ), .dma x) 0
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 x src dst h1 h2) k) Q) := by
  subst hrest
  unfold owing
  iintro ⟨#HR, ⟨%W, HO⟩, Hcr, Hat⟩ Hk
  ihave Hi := (inv_at m ρ K (c, ck)) $$ HR
  rw [show kcell (c, ck) = ((c : Thread nD τ), .dma x) from by rw [← hx]]
  icases Hi with #HI
  iapply (Rounds.wp_wait_rest_token 𝒱₀ ER (exRd m ρ) (c : Thread nD τ) none (κ := K (c, ck))
      (wpE_waitDma2_eq 𝒱₀ (c : Thread nD τ) none Set.univ) (Set.mem_univ _) () (O := 0) (W := W) (R := 0) (m := 0) (T := ∅)
      (by rw [Nat.zero_add, hexp, hN])) $$ [Hcr HO Hat]
  · isplitr; · iexact HI
    isplitl [Hcr]; · rw [hN]; iexact Hcr
    isplitl [HO]; · iexact HO
    isplitr; · rw [MayWait_zero]; iempintro
    iexact Hat
  iintro ⟨HO, Hat, -, Hpay⟩
  imod (Rounds.cell_close ER (exRd m ρ) (Set.mem_univ (K (c, ck))) (fun h => h) (R := 0 + 1) (duties_later m ρ ((c : Thread nD τ), .dma x))) $$ [Hat] with Hz
  · isplitr; · iexact HI
    iexact Hat
  iapply Hk
  isplitl [HO]; · iexists _; iexact HO
  isplitl [Hpay] <;> iassumption

include hn hn' in
/-- The wait for the `q`-th device's slot. -/
theorem step_recv {x : DmaSem sig} (hx : x = recvS (nb c q)) {src dst : Memref sig .tc .vmem S2x256 .f32} (hN : dst.view.dmaCredit = N)
    {h1 : src.view.WordExact} {h2 : dst.view.WordExact} :
    recvSt m ρ K c n
      ⊢ iprop((recvSt m ρ K c n' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 x src dst h1 h2) k) Q) := by
  subst hx
  unfold recvSt recvRes recvGot
  rw [bigSep_up _ q hn hn', bigSep_below _ q hn hn']
  iintro ⟨#HR, HO, ⟨⟨Hc, Ha⟩, Hrest⟩, Hgot⟩ Hk
  iapply (wait_close m ρ K c (.inr (.inr (nb c q))) rfl (expect_recv m ρ c q) (rest_recv m ρ c q) hN) $$ [HO Hc Ha]
  · isplitr; · iexact HR
    isplitl [HO]; · iexact HO
    isplitl [Hc] <;> iassumption
  iintro ⟨HO, Hp, Hz⟩
  iapply Hk
  isplitr; · iexact HR
  isplitl [HO]; · iexact HO
  isplitl [Hrest]; · iexact Hrest
  isplitl [Hp Hz]; · isplitl [Hp] <;> iassumption
  iexact Hgot

include hn hn' in
/-- The wait for the `q`-th copy to have been read. -/
theorem step_read {x : DmaSem sig} (hx : x = sendS q.succ) {src dst : Memref sig .tc .vmem S2x256 .f32} (hN : dst.view.dmaCredit = N)
    {h1 : src.view.WordExact} {h2 : dst.view.WordExact} :
    readSt m ρ K c n
      ⊢ iprop((readSt m ρ K c n' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 x src dst h1 h2) k) Q) := by
  subst hx
  unfold readSt readRes readGot
  rw [bigSep_up _ q hn hn', bigSep_below _ q hn hn']
  iintro ⟨#HR, HO, ⟨⟨Hc, Ha⟩, Hrest⟩, Hgot⟩ Hk
  iapply (wait_close m ρ K c (.inr (.inl q.succ)) rfl (expect_send m ρ c q) (rest_send m ρ c q) hN) $$ [HO Hc Ha]
  · isplitr; · iexact HR
    isplitl [HO]; · iexact HO
    isplitl [Hc] <;> iassumption
  iintro ⟨HO, Hp, Hz⟩
  iapply Hk
  isplitr; · iexact HR
  isplitl [HO]; · iexact HO
  isplitl [Hrest]; · iexact Hrest
  isplitl [Hp Hz]; · isplitl [Hp] <;> iassumption
  iexact Hgot

end Steps

end Cert.ExchangeProof

end
-- ==== Proof.Slots.lean ====
module

public import proofs.«01_k».proof.Proof.Steps
public import Idealize.ShloMosaic.Lib.Pipeline.ValueKit.Geometry

/-!
# The slots as parts of the candidates' buffer, and the contents stored

A slot is the elements whose first coordinate is its number: the eight slots are the whole buffer, each once. The two
rows a device stores make its slot the gathered candidates' slot, and the two rows of the result stored last are
the result whatever was there.
-/

@[expose] public section

set_option maxRecDepth 16384

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The slots -/

omit [FloatOps F] in
/-- A conjunction over the three axes. -/
theorem forall_axes {P : Fin 3 → Prop} : (∀ a, P a) ↔ P 0 ∧ P 1 ∧ P 2 :=
  ⟨fun h => ⟨h 0, h 1, h 2⟩, fun ⟨h0, h1, h2⟩ a => by fin_cases a <;> assumption⟩

/-- A slot is the elements whose first coordinate is its number. -/
theorem mem_slot (s : Dev nD) (i : S8x2x256.Idx) : i ∈ (slotM s).view.set ↔ (i 0).val = s.val := by
  rw [show (slotM s).view.set = (Rect.unit (s := S8x2x256) (k0_off4 s) S1x2x256.size (k0_off4_inb s)).set from
    (View.set_reshape _ _).trans (View.set_slice_whole cc0_scratch0 _), Rect.mem_set_unit]
  have e := k0_off4_eq s
  have h0 : k0_off4 s 0 = s.val := congrFun e 0
  have h1 : k0_off4 s 1 = 0 := congrFun e 1
  have h2 : k0_off4 s 2 = 0 := congrFun e 2
  have b1 : (i 1).val < 2 := (i 1).isLt
  have b2 : (i 2).val < 256 := (i 2).isLt
  refine forall_axes.trans ?_
  rw [h0, h1, h2]
  show (s.val ≤ (i 0).val ∧ (i 0).val < s.val + 1) ∧ (0 ≤ (i 1).val ∧ (i 1).val < 0 + 2) ∧ (0 ≤ (i 2).val ∧ (i 2).val < 0 + 256) ↔ _
  omega

omit [FloatOps F] in
/-- The candidates' buffer is its eight slots. -/
theorem slots_whole (c : Dev nD) (q : PosShare TreeShare) (f : (cc0_scratch0 : Ref sig .tc).ty.Contents (Elt F)) :
    ((c : Thread nD τ).loc cc0_scratch0 ↦{q} f : sProp 𝕄) = bigSep Finset.univ fun s : Dev nD => slotPts c s q f := by
  refine Eq.trans ?_ (pointsTo_biUnion (ℓ := (c : Thread nD τ).loc cc0_scratch0) Finset.univ (fun s : Dev nD => (slotM s).view.set) fun s _ t _ h => ?_)
  · refine congrArg (fun S => ((c : Thread nD τ).loc cc0_scratch0 ↦[S]{q} f : sProp 𝕄)) (Finset.ext fun i => ?_)
    exact ⟨fun _ => Finset.mem_biUnion.mpr ⟨i 0, Finset.mem_univ _, (mem_slot (i 0) i).mpr rfl⟩, fun _ => Finset.mem_univ _⟩
  · exact Finset.disjoint_left.mpr fun i hi hj => h (Fin.ext (((mem_slot s i).mp hi).symm.trans ((mem_slot t i).mp hj)))

/-! ## The two rows of a slot -/

/-- Where the first row is stored, -/
abbrev row0 (c : Dev nD) : Rect S8x2x256 := Rect.unit (s := S8x2x256) (k0_off1 c) S1x1x256.size (k0_off1_inb c)
/-- the second. -/
abbrev row1 (c : Dev nD) : Rect S8x2x256 := Rect.unit (s := S8x2x256) (k0_off2 c) S1x1x256.size (k0_off2_inb c)

/-- A row's elements are those of the slot whose second coordinate is the row's. -/
theorem mem_row (off : Fin 3 → ℕ) (inb) (c : Dev nD) (r : ℕ) (h : off = ![c.val, r, 0]) (i : S8x2x256.Idx) :
    i ∈ (Rect.unit (s := S8x2x256) off S1x1x256.size inb).set ↔ (i 0).val = c.val ∧ (i 1).val = r := by
  subst h
  rw [Rect.mem_set_unit]
  have b2 : (i 2).val < 256 := (i 2).isLt
  refine forall_axes.trans ?_
  show (c.val ≤ (i 0).val ∧ (i 0).val < c.val + 1) ∧ (r ≤ (i 1).val ∧ (i 1).val < r + 1) ∧ (0 ≤ (i 2).val ∧ (i 2).val < 0 + 256) ↔ _
  omega
/-- An element lies in the first row of slot `c` exactly if its first two coordinates say so. -/
theorem mem_row0 (c : Dev nD) (i : S8x2x256.Idx) : i ∈ (row0 c).set ↔ (i 0).val = c.val ∧ (i 1).val = 0 := mem_row _ _ c 0 (k0_off1_eq c) i
/-- An element lies in the second row of slot `c` exactly if its first two coordinates say so. -/
theorem mem_row1 (c : Dev nD) (i : S8x2x256.Idx) : i ∈ (row1 c).set ↔ (i 0).val = c.val ∧ (i 1).val = 1 := mem_row _ _ c 1 (k0_off2_eq c) i

/-- The whole buffer's view places every element where it is. -/
theorem setOn_whole (M : Finset S8x2x256.Idx) : (gM : Memref sig .tc .vmem S8x2x256 .f32).view.setOn M = M := Finset.map_refl
/-- A load of the first row stays in the slot. -/
theorem row0_load_sub (c : Dev nD) : (gM : Memref sig .tc .vmem S8x2x256 .f32).view.setOn (row0 c).toLoadRect.set ⊆ (slotM c).view.set := by
  rw [setOn_whole]; exact fun i hi => (mem_slot c i).mpr ((mem_row0 c i).mp hi).1
/-- A load of the second row stays in the slot. -/
theorem row1_load_sub (c : Dev nD) : (gM : Memref sig .tc .vmem S8x2x256 .f32).view.setOn (row1 c).toLoadRect.set ⊆ (slotM c).view.set := by
  rw [setOn_whole]; exact fun i hi => (mem_slot c i).mpr ((mem_row1 c i).mp hi).1
/-- The elements that a store of the first row touches. -/
theorem row0_set (c : Dev nD) : ((gM : Memref sig .tc .vmem S8x2x256 .f32).access (row0 c)).setOn Finset.univ = (row0 c).set :=
  View.set_slice_whole cc0_scratch0 (row0 c)
/-- The elements that a store of the second row touches. -/
theorem row1_set (c : Dev nD) : ((gM : Memref sig .tc .vmem S8x2x256 .f32).access (row1 c)).setOn Finset.univ = (row1 c).set :=
  View.set_slice_whole cc0_scratch0 (row1 c)
/-- A store of the first row stays in the slot. -/
theorem row0_store_sub (c : Dev nD) : ((gM : Memref sig .tc .vmem S8x2x256 .f32).access (row0 c)).setOn Finset.univ ⊆ (slotM c).view.set := by
  rw [row0_set]; exact fun i hi => (mem_slot c i).mpr ((mem_row0 c i).mp hi).1
/-- A store of the second row stays in the slot. -/
theorem row1_store_sub (c : Dev nD) : ((gM : Memref sig .tc .vmem S8x2x256 .f32).access (row1 c)).setOn Finset.univ ⊆ (slotM c).view.set := by
  rw [row1_set]; exact fun i hi => (mem_slot c i).mpr ((mem_row1 c i).mp hi).1

omit [FloatOps F] in
/-- A row stored, read at one of its elements. -/
theorem row_write (off : Fin 3 → ℕ) (inb) (c : Dev nD) (r : ℕ) (h : off = ![c.val, r, 0]) (f : (cc0_scratch0 : Ref sig .tc).ty.Contents (Elt F))
    (w : S1x1x256.Idx → Elt F .f32) (i : S8x2x256.Idx) (h0 : (i 0).val = c.val) (h1 : (i 1).val = r) :
    ((gM : Memref sig .tc .vmem S8x2x256 .f32).access (Rect.unit (s := S8x2x256) off S1x1x256.size inb)).write (Elt F) f w Finset.univ i
      = w (ValueIdx.ix3 (0 : Fin 1) (0 : Fin 1) (i 2)) := by
  subst h
  have e : ((gM : Memref sig .tc .vmem S8x2x256 .f32).access (Rect.unit (s := S8x2x256) ![c.val, r, 0] S1x1x256.size inb)).emb
      (ValueIdx.ix3 (0 : Fin 1) (0 : Fin 1) (i 2) : S1x1x256.Idx) = i := by
    funext a
    refine Fin.ext ((ValueKit.view_emb_slice_whole_unit_val cc0_scratch0 ![c.val, r, 0] S1x1x256.size inb _ a).trans ?_)
    fin_cases a
    · show c.val + 0 = (i 0).val; omega
    · show r + 0 = (i 1).val; omega
    · show 0 + (i 2).val = (i 2).val; omega
  conv_lhs => rw [← e]
  exact View.write_emb_of_mem _ _ (Finset.mem_univ _)

/-- The two rows stored make the slot the gathered candidates'. -/
theorem own_written (c : Dev nD) (f : (cc0_scratch0 : Ref sig .tc).ty.Contents (Elt F)) :
    (((gM : Memref sig .tc .vmem S8x2x256 .f32).access (row1 c)).loc (c : Thread nD τ) ↦[(slotM c).view.set]{fullShare}
        ((gM : Memref sig .tc .vmem S8x2x256 .f32).access (row1 c)).write (Elt F)
          (((gM : Memref sig .tc .vmem S8x2x256 .f32).access (row0 c)).write (Elt F) f (k0_pay3 (k0_pay1 (xstg m ρ c))) Finset.univ)
          (k0_pay4 (Scalar.remsi (Scalar.divsi (Dev.word c) 1#32) 8#32) (k0_pay1 (xstg m ρ c)) (iota .tc S256x256 32 [0] iota_S256x256_d0_w32)) Finset.univ : sProp 𝕄)
      = slotPts c c fullShare (gath m ρ) := by
  unfold slotPts
  refine pointsTo_congr fun i hi => ?_
  have h0 := (mem_slot c i).mp hi
  have hc : (i 0 : Dev nD) = c := Fin.ext h0
  have b1 : (i 1).val < 2 := (i 1).isLt
  unfold gath
  by_cases h1 : (i 1).val = 0
  · rw [if_pos h1, View.write_of_not_mem _ _ _ (by rw [row1_set, mem_row1]; omega), row_write _ _ c 0 (k0_off1_eq c) _ _ i h0 h1]
    exact congrArg (fun s => rowMax m ρ s _) hc.symm
  · rw [if_neg h1, row_write _ _ c 1 (k0_off2_eq c) _ _ i h0 (by omega)]
    exact congrArg (fun s => rowIdx m ρ s _) hc.symm

/-! ## The own slot, lent -/

omit [FloatOps F] in
/-- A slot is the share kept and the seven lent. -/
theorem slot_lend (c s : Dev nD) (f : (cc0_scratch0 : Ref sig .tc).ty.Contents (Elt F)) :
    slotPts c s fullShare f ⊣⊢ iprop(slotPts c s kept f ∗ bigSep Finset.univ fun q : Fin 7 => slotPts c s (lent q) f) :=
  Transfers.pointsTo_toks fullShare 7

/-! ## The result -/

/-- The rows of the gathered candidates, as loaded last: the maxima, -/
def gMax : FVec F S8x1x256 .f32 :=
  (gM : Memref sig .tc .vmem S8x2x256 .f32).view.readAt (Elt F) (Rect.unit (s := S8x2x256) ![0, 0, 0] S8x1x256.size inb_S8x2x256_S8x1x256_0_0_0).toLoadRect (gath m ρ)
/-- the row numbers. -/
def gIdx : FVec F S8x1x256 .f32 :=
  (gM : Memref sig .tc .vmem S8x2x256 .f32).view.readAt (Elt F) (Rect.unit (s := S8x2x256) ![0, 1, 0] S8x1x256.size inb_S8x2x256_S8x1x256_0_1_0).toLoadRect (gath m ρ)

/-- The result every device stores. -/
def outAt : (cc0_stg1_0 : Ref sig .tc).ty.Contents (Elt F) :=
  fun (i : S2x256.Idx) => if (i 0).val = 0 then k0_pay10 (k0_pay7 (gMax m ρ)) (ValueIdx.ix2 (0 : Fin 1) (i 1))
    else k0_pay11 (k0_pay6 (gIdx m ρ)) (k0_pay8 (gMax m ρ)) k0_pay9 (ValueIdx.ix2 (0 : Fin 1) (i 1))

/-- Where the result's rows are stored. -/
abbrev out0 : Rect S2x256 := Rect.unit (s := S2x256) ![0, 0] S1x256.size inb_S2x256_S1x256_0_0
abbrev out1 : Rect S2x256 := Rect.unit (s := S2x256) ![1, 0] S1x256.size inb_S2x256_S1x256_1_0

omit [FloatOps F] in
/-- A row of the result stored, read at one of its elements. -/
theorem out_write (r : ℕ) (inb) (f : (cc0_stg1_0 : Ref sig .tc).ty.Contents (Elt F)) (w : S1x256.Idx → Elt F .f32) (i : S2x256.Idx) (h0 : (i 0).val = r) :
    ((oM : Memref sig .tc .vmem S2x256 .f32).access (Rect.unit (s := S2x256) ![r, 0] S1x256.size inb)).write (Elt F) f w Finset.univ i
      = w (ValueIdx.ix2 (0 : Fin 1) (i 1)) := by
  have e : ((oM : Memref sig .tc .vmem S2x256 .f32).access (Rect.unit (s := S2x256) ![r, 0] S1x256.size inb)).emb
      (ValueIdx.ix2 (0 : Fin 1) (i 1) : S1x256.Idx) = i := by
    funext a
    refine Fin.ext ((ValueKit.view_emb_slice_whole_unit_val cc0_stg1_0 ![r, 0] S1x256.size inb _ a).trans ?_)
    fin_cases a
    · show r + 0 = (i 0).val; omega
    · show 0 + (i 1).val = (i 1).val; omega
  conv_lhs => rw [← e]
  exact View.write_emb_of_mem _ _ (Finset.mem_univ _)

/-- The two rows stored are the result, whatever was there. -/
theorem out_written (f : (cc0_stg1_0 : Ref sig .tc).ty.Contents (Elt F)) :
    ((oM : Memref sig .tc .vmem S2x256 .f32).access out1).write (Elt F)
      (((oM : Memref sig .tc .vmem S2x256 .f32).access out0).write (Elt F) f (k0_pay10 (k0_pay7 (gMax m ρ))) Finset.univ)
      (k0_pay11 (k0_pay6 (gIdx m ρ)) (k0_pay8 (gMax m ρ)) k0_pay9) Finset.univ = outAt m ρ := by
  funext (i : S2x256.Idx)
  have b0 : (i 0).val < 2 := (i 0).isLt
  unfold outAt
  by_cases h : (i 0).val = 0
  · rw [if_pos h, View.write_of_not_mem _ _ _ ?_, out_write 0 _ _ _ i h]
    rw [show ((oM : Memref sig .tc .vmem S2x256 .f32).access out1).setOn Finset.univ = out1.set from View.set_slice_whole cc0_stg1_0 out1, Rect.mem_set_unit]
    intro hh
    have := (hh 0).1
    change 1 ≤ (i 0).val at this
    omega
  · rw [if_neg h, out_write 1 _ _ _ i (by omega)]

end Cert.ExchangeProof

end
-- ==== Proof.Body.lean ====
module

public import proofs.«01_k».proof.Proof.Slots

/-!
# The body at a device

What a device starts from and ends with, the assembly of the states between the exchange's phases, and the body
executed once at a device `c`.
-/

@[expose] public section

set_option maxRecDepth 16384

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

omit [FloatOps F] in
/-- A device's cells: its barrier's, the send cells by copy, the receive cells by sender. -/
theorem cells_split (c : Dev nD) (Φ : CK → sProp 𝕄) :
    bigSep Finset.univ Φ = iprop(Φ (.inl ()) ∗ (Φ (.inr (.inl 0)) ∗ bigSep Finset.univ fun q : Fin 7 => Φ (.inr (.inl q.succ)))
      ∗ (Φ (.inr (.inr c)) ∗ bigSep Finset.univ fun q : Fin 7 => Φ (.inr (.inr (nb c q))))) := by
  refine (BI.bigSep_univ_sum Φ).trans ?_
  rw [BI.bigSep_univ_of_subsingleton (), BI.bigSep_univ_sum, bigSep_succ fun p => Φ (.inr (.inl p)), bigSep_around c fun s => Φ (.inr (.inr s))]
  rfl

/-- The tokens of the duties `c` pays towards the `q`-th device around. -/
def payTok (c : Dev nD) (q : Fin 7) : sProp 𝕄 :=
  iprop(dutyTok ER (barCell (nb c q)) 0 c ∗ dutyTok ER (sendCell c q.succ) 0 c ∗ dutyTok ER (recvCell (nb c q) c) 0 c)

/-- What is allocated for the exchange at device `c`: what every device knows, the positions at its own cells, the
    tokens of the duties it pays. -/
def ghost (K : Dev nD × CK → ℕ) (c : Dev nD) : sProp 𝕄 :=
  iprop(records m ρ K ∗ (bigSep Finset.univ fun k : CK => atPos ER (kcell (c, k)) 0 ∅ 0) ∗ bigSep Finset.univ fun q : Fin 7 => payTok (F := F) c q)

/-- What the body of device `c` starts from, the candidates' buffer aside. -/
def start (c : Dev nD) : sProp 𝕄 :=
  iprop((∃ K, ghost m ρ K c) ∗ cred (tallyAt (barCell c) () 7) ∗ (bigSep Finset.univ fun q : Fin 7 => cred (tallyAt (recvCell c (nb c q)) () N)) ∗ levAts L lv)

/-- The candidates' buffer of device `c`, any contents. -/
def scratch (c : Dev nD) : sProp 𝕄 := iprop(∃ f : Buf (Elt F) ((c : Thread nD τ).loc cc0_scratch0), (c : Thread nD τ).loc cc0_scratch0 ↦{fullShare} f)

/-- Before the body, -/
def Φ₀ (c : Dev nD) : sProp 𝕄 := iprop(start m ρ c ∗ scratch (F := F) c)
/-- and after it: every cell closed at zero. -/
def Φ₁ (c : Dev nD) : sProp 𝕄 := iprop(scratch (F := F) c ∗ bigSep Finset.univ fun k : CK => semVal (kcell (c, k)) 0)

/-- The pipeline's data: one grid point, the block in, the result out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] in
/-- A conjunction over the two windows. -/
theorem bigSep_W (Φ : Fin cfg0.W → sProp 𝕄) : bigSep Finset.univ Φ = iprop(Φ (0 : Fin 2) ∗ Φ (1 : Fin 2)) := bigSep_W0 Φ

/-- The argument's window is fetched at the grid point. -/
theorem fetch_0 (t : Fin cfg0.N) : (cfg0.win (0 : Fin 2)).fetch t = true := by rw [fin_N0 t]; rfl

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- To hold a whole buffer's contents is to hold the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## Between the phases -/

omit [FloatOps F] in
/-- For the units: the tokens on the barrier cells, and the seven slots the others write. -/
theorem to_sigRes (c : Dev nD) (f : Buf (Elt F) ((c : Thread nD τ).loc cc0_scratch0)) :
    iprop((bigSep Finset.univ fun q : Fin 7 => payTok (F := F) c q) ∗ (c : Thread nD τ).loc cc0_scratch0 ↦{fullShare} f)
      ⊢ iprop(sigRes (F := F) c 0 ∗ slotPts c c fullShare f
          ∗ bigSep Finset.univ fun q : Fin 7 => iprop(dutyTok ER (sendCell c q.succ) 0 c ∗ dutyTok ER (recvCell (nb c q) c) 0 c)) := by
  unfold payTok sigRes
  rw [slots_whole, bigSep_around c fun s => slotPts c s fullShare f, up_zero, bigSep_sep', bigSep_sep' _ (fun q : Fin 7 => dutyTok ER (barCell (nb c q)) 0 c)]
  iintro ⟨⟨HtB, Ht⟩, Hown, Hsl⟩
  isplitl [HtB Hsl]
  · isplitl [HtB]; · iexact HtB
    iapply (show (bigSep Finset.univ fun q : Fin 7 => slotPts c (nb c q) fullShare f)
      ⊢ bigSep Finset.univ fun q : Fin 7 => iprop(∃ f, slotPts (F := F) c (nb c q) fullShare f) from bigSep_mono fun q _ =>
        show slotPts c (nb c q) fullShare f ⊢ iprop(∃ f, slotPts (F := F) c (nb c q) fullShare f) from by iintro H; iexists f; iexact H)
    iexact Hsl
  isplitl [Hown] <;> iassumption

/-- For the copies: the tokens, the own slot lent, the slots the others handed over. -/
theorem to_sendRes (c : Dev nD) :
    iprop((bigSep Finset.univ fun q : Fin 7 => iprop(dutyTok ER (sendCell c q.succ) 0 c ∗ dutyTok ER (recvCell (nb c q) c) 0 c))
        ∗ slotPts c c fullShare (gath m ρ) ∗ bigSep Finset.univ fun q : Fin 7 => barPay (F := F) c (nb c q))
      ⊢ iprop(sendRes m ρ c 0 ∗ slotPts c c kept (gath m ρ)) := by
  unfold sendRes barPay
  rw [up_zero, bigSep_sep' _ (fun q : Fin 7 => iprop(∃ f, slotPts (nb c q) c fullShare f))]
  iintro ⟨Ht, Hown, Hsl, -⟩
  ihave Ho := (slot_lend c c (gath m ρ)).1 $$ Hown
  icases Ho with ⟨Hk, Hl⟩
  isplitr [Hk]
  · rw [bigSep_sep' _ (fun q : Fin 7 => iprop(dutyTok ER (sendCell c q.succ) 0 c ∗ dutyTok ER (recvCell (nb c q) c) 0 c)),
      bigSep_sep' _ (fun q : Fin 7 => slotPts c c (lent q) (gath m ρ))]
    isplitl [Ht]; · iexact Ht
    isplitl [Hl]; · iexact Hl
    iexact Hsl
  · iexact Hk

omit [FloatOps F] in
/-- The buffer whole: the share kept of it whole, and of each slot the shares lent. -/
theorem whole_lend (c : Dev nD) (f : (cc0_scratch0 : Ref sig .tc).ty.Contents (Elt F)) :
    ((c : Thread nD τ).loc cc0_scratch0 ↦{fullShare} f : sProp 𝕄) ⊣⊢ iprop(((c : Thread nD τ).loc cc0_scratch0 ↦{kept} f)
      ∗ (bigSep Finset.univ fun q : Fin 7 => slotPts c c (lent q) f)
      ∗ bigSep Finset.univ fun p : Fin 7 => bigSep Finset.univ fun q : Fin 7 => slotPts c (nb c p) (lent q) f) := by
  rw [slots_whole, slots_whole, ← bigSep_around c fun s => bigSep Finset.univ fun q : Fin 7 => slotPts c s (lent q) f, ← bigSep_sep']
  exact ⟨bigSep_mono fun s _ => (slot_lend c s f).1, bigSep_mono fun s _ => (slot_lend c s f).2⟩

omit [FloatOps F] in
/-- The own slot kept and the seven slots arrived: the buffer whole at the share kept, and the rest of the slots arrived. -/
theorem gather_kept (c : Dev nD) (f : (cc0_scratch0 : Ref sig .tc).ty.Contents (Elt F)) :
    iprop(slotPts c c kept f ∗ bigSep Finset.univ fun p : Fin 7 => slotPts c (nb c p) fullShare f)
      ⊢ iprop(((c : Thread nD τ).loc cc0_scratch0 ↦{kept} f)
          ∗ bigSep Finset.univ fun p : Fin 7 => bigSep Finset.univ fun q : Fin 7 => slotPts c (nb c p) (lent q) f) := by
  rw [slots_whole, bigSep_around c fun s => slotPts c s kept f]
  iintro ⟨Hk, Hs⟩
  ihave Hs' := (show (bigSep Finset.univ fun p : Fin 7 => slotPts c (nb c p) fullShare f)
      ⊢ bigSep Finset.univ fun p : Fin 7 => iprop(slotPts c (nb c p) kept f ∗ bigSep Finset.univ fun q : Fin 7 => slotPts c (nb c p) (lent q) f)
      from bigSep_mono fun p _ => (slot_lend c (nb c p) f).1) $$ Hs
  ihave Hs := (Entails.of_eq (bigSep_sep' Finset.univ (fun p : Fin 7 => slotPts c (nb c p) kept f) (fun p => bigSep Finset.univ fun q : Fin 7 => slotPts c (nb c p) (lent q) f))) $$ Hs'
  icases Hs with ⟨H1, H2⟩
  isplitl [Hk H1]
  · isplitl [Hk] <;> iassumption
  iexact H2

section Body
variable (K : Dev nD × CK → ℕ)

/-- The wait for the seven units on the own barrier cell, which is closed. -/
theorem step_barrier (c : Dev nD) {α : Type} {Q : α → sProp (MT nD τ sig Unit (Elt F) ℕ UU ℕ)} {k : PUnit → Prog (TpuEff nD τ sig (Elt F) Λ₀ .tc) α} :
    iprop(records m ρ K ∗ levAts L lv ∗ owing c (Orecv c 0) ∗ cred (tallyAt (barCell c) () 7) ∗ atPos ER (barCell c) 0 ∅ 0)
      ⊢ iprop((owing c (Orecv c 0) ∗ (bigSep Finset.univ fun q : Fin 7 => barPay (F := F) c (nb c q)) ∗ semVal (barCell c) 0
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32 : BitVec 32).toInt) k) Q) := by
  unfold owing
  iintro ⟨#HR, #Hlev, ⟨%W, HO⟩, Hcr, Hat⟩ Hk
  ihave Hi := (inv_at m ρ K (bIx c)) $$ HR
  icases Hi with #HI
  iapply (Rounds.wp_wait_rest_token 𝒱₀ ER (exRd m ρ) (c : Thread nD τ) none (κ := K (bIx c))
      (wpE_semWait_eq 𝒱₀ (c : Thread nD τ) none Set.univ) (Set.mem_univ _) () (O := Orecv c 0) (W := W) (R := 0) (m := 0) (T := ∅)
      (by rw [expect_bar]; decide)) $$ [Hcr HO Hat]
  · isplitr; · iexact HI
    isplitl [Hcr]; · iexact Hcr
    isplitl [HO]; · iexact HO
    isplitr; · iapply (mayWait_bar c); iexact Hlev
    iexact Hat
  iintro ⟨HO, Hat, -, Hpay⟩
  imod (Rounds.cell_close ER (exRd m ρ) (Set.mem_univ (K (bIx c))) (fun h => h) (R := 0 + 1) (duties_later m ρ (barCell c))) $$ [Hat] with Hz
  · isplitr; · iexact HI
    iexact Hat
  ihave Hp := (Entails.of_eq (rest_bar m ρ c)) $$ Hpay
  iapply Hk
  isplitl [HO]; · iexists _; iexact HO
  isplitl [Hp] <;> iassumption

/-- A cell with no duty at all closes as it is. -/
theorem close_unused (c : Dev nD) (ck : CK) (h : dutiesOf c (csem ck) = ∅) :
    iprop(records m ρ K ∗ atPos ER (kcell (c, ck)) 0 ∅ 0) ⊢ |={Set.univ}=> semVal (kcell (c, ck)) 0 := by
  iintro ⟨#HR, Hat⟩
  ihave Hi := (inv_at m ρ K (c, ck)) $$ HR
  icases Hi with #HI
  iapply (Rounds.cell_close ER (exRd m ρ) (Set.mem_univ (K (c, ck))) (fun h => h) (R := 0) (fun r hr => by
    rcases Nat.eq_zero_or_pos r with rfl | h'
    · exact (duties_at m ρ c (csem ck)).trans h
    · exact duties_later m ρ _ r h'))
  isplitr; · iexact HI
  iexact Hat

/-! ## The semaphores the body names -/

omit [FloatOps F] in
/-- The receive semaphore a copy of `c` lands on, -/
theorem sem_recv_own (c : Dev nD) :
    ((cc0_scratch2.slice (Rect.unit (s := S8) (k0_off3 c) S1.size (k0_off3_inb c))).squeeze S_ squeezes_S1_S_).sem = recvS c := by
  revert c; decide +kernel
omit [FloatOps F] in
/-- and the one the `q`-th device's copy lands on. -/
theorem sem_recv (c : Dev nD) (q : Fin 7) :
    ((cc0_scratch2.slice (Rect.unit (s := S8) (k0_off5 c (BitVec.ofNat 32 (1 + q.val))) S1.size (k0_off5_inb c q))).squeeze S_ squeezes_S1_S_).sem = recvS (nb c q) := by
  revert c q; decide +kernel

omit [FloatOps F] in
/-- Zero offsets on both axes. -/
theorem hz : (![0, 0] : Fin 2 → Nat) = fun _ => 0 := funext fun a => by fin_cases a <;> rfl
omit [FloatOps F] in
/-- The load of the whole argument's block reads all of it. -/
theorem read_x (f : (cc0_stg0_0 : Ref sig .tc).ty.Contents (Elt F)) :
    (xM : Memref sig .tc .vmem S256x256 .bf16).view.readAt (Elt F) (Rect.unit (s := S256x256) ![0, 0] S256x256.size inb_S256x256_S256x256_0_0).toLoadRect f = f :=
  Memref.readAt_unit_zero (Elt F) cc0_stg0_0 hz _ f

/-- A pair of rows of the candidates from `off` on, as the waits name them. -/
abbrev rowsM (off : Fin 3 → ℕ) (h : ∀ a, off a + S1x2x256.size a ≤ S8x2x256.size a) : Memref sig .tc .vmem S2x256 .f32 :=
  (gM.slice (Rect.unit (s := S8x2x256) off S1x2x256.size h) (fun _ => rfl)).squeeze S2x256 squeezes_S1x2x256_S2x256
/-- A slot's credit does not depend on where the slot lies. -/
theorem credit {off : Fin 3 → ℕ} (h : ∀ a, off a + S1x2x256.size a ≤ S8x2x256.size a) : (rowsM off h).view.dmaCredit = N := rfl

/-! ## The body -/

/-- Before the point, -/
def bodyPre (c : Dev nD) : sProp 𝕄 :=
  iprop((ghost m ρ K c ∗ cred (tallyAt (barCell c) () 7) ∗ (bigSep Finset.univ fun q : Fin 7 => cred (tallyAt (recvCell c (nb c q)) () N)) ∗ levAts L lv ∗ scratch (F := F) c)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and after it. -/
def bodyPost (c : Dev nD) : sProp 𝕄 :=
  iprop(Φ₁ (F := F) c ∗ (dats m ρ 0 c).owesAt () t0_0.succ ∗ stg c cc0_stg0_0 (xstg m ρ c) ∗ stg c cc0_stg1_0 (outAt m ρ))

set_option maxHeartbeats 4000000 in
/-- The body at device `c`, one rule per step in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel
    k0_part11_skel k0_part12_skel k0_part13_skel
  simp only [semSignalWord, semWaitWord, Prog.lift, Prog.bind_op, Prog.bind_ret, Prog.pure_eq_ret, wp_deviceId]
  unfold bodyPre ghost scratch
  iintro ⟨⟨⟨⟨#HR, Hat, Htk⟩, HcB, HcV, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  ihave Hat := (Entails.of_eq (cells_split (F := F) c fun k => atPos ER (kcell (c, k)) 0 ∅ 0)) $$ Hat
  icases Hat with ⟨HaB, ⟨HaS0, HaS⟩, HaV0, HaV⟩
  -- the units to the seven barriers, each with the slot its device writes
  ihave H := (to_sigRes (F := F) c f0) $$ [Htk Hscr]
  · isplitl [Htk] <;> iassumption
  icases H with ⟨Hsg, Hown, Htk⟩
  ihave HS := (show iprop(records m ρ K ∗ owing c (Orecv c 0 + Obar c 0) ∗ sigRes (F := F) c 0) ⊢ sigSt m ρ K c 0 from BI.Entails.refl _) $$ [HO Hsg]
  · isplitr; · iexact HR
    isplitl [HO]; · unfold owing O₀; iexists W; iexact HO
    iexact Hsg
  iapply (step_signal m ρ K c 0 (n := 0) (n' := 1) rfl rfl ((by decide +kernel : ∀ c : Dev nD, (⟨k0_dev1 c, k0_dev1_lt c⟩ : Dev nD) = nb c 0) c) (a := (1#32 : BitVec 32).toInt) rfl) $$ HS; iintro HS
  iapply (step_signal m ρ K c 1 (n := 1) (n' := 2) rfl rfl ((by decide +kernel : ∀ c : Dev nD, (⟨k0_dev2 c, k0_dev2_lt c⟩ : Dev nD) = nb c 1) c) (a := (1#32 : BitVec 32).toInt) rfl) $$ HS; iintro HS
  iapply (step_signal m ρ K c 2 (n := 2) (n' := 3) rfl rfl ((by decide +kernel : ∀ c : Dev nD, (⟨k0_dev3 c, k0_dev3_lt c⟩ : Dev nD) = nb c 2) c) (a := (1#32 : BitVec 32).toInt) rfl) $$ HS; iintro HS
  iapply (step_signal m ρ K c 3 (n := 3) (n' := 4) rfl rfl ((by decide +kernel : ∀ c : Dev nD, (⟨k0_dev4 c, k0_dev4_lt c⟩ : Dev nD) = nb c 3) c) (a := (1#32 : BitVec 32).toInt) rfl) $$ HS; iintro HS
  iapply (step_signal m ρ K c 4 (n := 4) (n' := 5) rfl rfl ((by decide +kernel : ∀ c : Dev nD, (⟨k0_dev5 c, k0_dev5_lt c⟩ : Dev nD) = nb c 4) c) (a := (1#32 : BitVec 32).toInt) rfl) $$ HS; iintro HS
  iapply (step_signal m ρ K c 5 (n := 5) (n' := 6) rfl rfl ((by decide +kernel : ∀ c : Dev nD, (⟨k0_dev6 c, k0_dev6_lt c⟩ : Dev nD) = nb c 5) c) (a := (1#32 : BitVec 32).toInt) rfl) $$ HS; iintro HS
  iapply (step_signal m ρ K c 6 (n := 6) (n' := 7) rfl rfl ((by decide +kernel : ∀ c : Dev nD, (⟨k0_dev7 c, k0_dev7_lt c⟩ : Dev nD) = nb c 6) c) (a := (1#32 : BitVec 32).toInt) rfl) $$ HS; iintro HS
  unfold sigSt
  rw [Obar_seven, add_zero]
  icases HS with ⟨-, HO, -⟩
  -- the block loaded, the two rows of the own slot stored
  iapply (wp_load 𝒱₀ (c : Thread nD τ) none Set.univ (m := xM) (Finset.subset_univ _)) $$ Hx; iintro Hx
  rw [read_x]
  unfold slotPts
  iapply (wp_load 𝒱₀ (c : Thread nD τ) none Set.univ (m := gM) (row0_load_sub c)) $$ Hown; iintro Hown
  iapply (wp_store 𝒱₀ (c : Thread nD τ) none Set.univ (m := gM) (r := row0 c) (Mk := Finset.univ) (row0_store_sub c)) $$ Hown; iintro Hown
  iapply (wp_load 𝒱₀ (c : Thread nD τ) none Set.univ (m := gM) (row1_load_sub c)) $$ Hown; iintro Hown
  iapply (wp_store 𝒱₀ (c : Thread nD τ) none Set.univ (m := gM) (r := row1 c) (Mk := Finset.univ) (row1_store_sub c)) $$ Hown; iintro Hown
  ihave Hslot := (Entails.of_eq (own_written m ρ c f0)) $$ Hown
  -- the wait for the seven units
  iapply (step_barrier m ρ K c) $$ [HO HcB HaB]
  · isplitr; · iexact HR
    isplitr; · iexact Hlev
    isplitl [HO]; · iexact HO
    isplitl [HcB] <;> iassumption
  iintro ⟨HO, Hpay, HzB⟩
  -- the seven copies
  ihave H := (to_sendRes m ρ c) $$ [Htk Hslot Hpay]
  · isplitl [Htk]; · iexact Htk
    isplitl [Hslot] <;> iassumption
  icases H with ⟨Hsr, Hkept⟩
  ihave HS := (show iprop(records m ρ K ∗ owing c (Orecv c 0) ∗ sendRes m ρ c 0 ∗ sendCred (F := F) c 0) ⊢ sendSt m ρ K c 0 from BI.Entails.refl _) $$ [HO Hsr]
  · isplitr; · iexact HR
    isplitl [HO]; · iexact HO
    isplitl [Hsr]; · iexact Hsr
    unfold sendCred; rw [below_zero, BI.bigSep_empty]; iempintro
  iapply (step_send m ρ K c 0 (n := 0) (n' := 1) rfl rfl ((by decide +kernel : ∀ c : Dev nD, (⟨k0_dev8 c, k0_dev8_lt c⟩ : Dev nD) = nb c 0) c) rfl (sem_recv_own c)) $$ HS; iintro HS
  iapply (step_send m ρ K c 1 (n := 1) (n' := 2) rfl rfl ((by decide +kernel : ∀ c : Dev nD, (⟨k0_dev9 c, k0_dev9_lt c⟩ : Dev nD) = nb c 1) c) rfl (sem_recv_own c)) $$ HS; iintro HS
  iapply (step_send m ρ K c 2 (n := 2) (n' := 3) rfl rfl ((by decide +kernel : ∀ c : Dev nD, (⟨k0_dev10 c, k0_dev10_lt c⟩ : Dev nD) = nb c 2) c) rfl (sem_recv_own c)) $$ HS; iintro HS
  iapply (step_send m ρ K c 3 (n := 3) (n' := 4) rfl rfl ((by decide +kernel : ∀ c : Dev nD, (⟨k0_dev11 c, k0_dev11_lt c⟩ : Dev nD) = nb c 3) c) rfl (sem_recv_own c)) $$ HS; iintro HS
  iapply (step_send m ρ K c 4 (n := 4) (n' := 5) rfl rfl ((by decide +kernel : ∀ c : Dev nD, (⟨k0_dev12 c, k0_dev12_lt c⟩ : Dev nD) = nb c 4) c) rfl (sem_recv_own c)) $$ HS; iintro HS
  iapply (step_send m ρ K c 5 (n := 5) (n' := 6) rfl rfl ((by decide +kernel : ∀ c : Dev nD, (⟨k0_dev13 c, k0_dev13_lt c⟩ : Dev nD) = nb c 5) c) rfl (sem_recv_own c)) $$ HS; iintro HS
  iapply (step_send m ρ K c 6 (n := 6) (n' := 7) rfl rfl ((by decide +kernel : ∀ c : Dev nD, (⟨k0_dev14 c, k0_dev14_lt c⟩ : Dev nD) = nb c 6) c) rfl (sem_recv_own c)) $$ HS; iintro HS
  unfold sendSt sendCred
  rw [Orecv_seven, below_seven]
  icases HS with ⟨-, HO, -, HcS⟩
  -- the waits for the seven slots
  ihave HS := (show iprop(records m ρ K ∗ owing c 0 ∗ recvRes (F := F) c 0 ∗ recvGot m ρ c 0) ⊢ recvSt m ρ K c 0 from BI.Entails.refl _) $$ [HO HcV HaV]
  · isplitr; · iexact HR
    isplitl [HO]; · iexact HO
    isplitl [HcV HaV]
    · unfold recvRes; rw [up_zero, bigSep_sep']
      isplitl [HcV] <;> iassumption
    unfold recvGot; rw [below_zero, BI.bigSep_empty]; iempintro
  iapply (step_recv m ρ K c 0 (n := 0) (n' := 1) rfl rfl (sem_recv c 0) (src := rowsM (k0_off6 c 1#32) (k0_off6_inb c 0)) (dst := rowsM (k0_off6 c 1#32) (k0_off6_inb c 0)) (credit _)) $$ HS; iintro HS
  iapply (step_recv m ρ K c 1 (n := 1) (n' := 2) rfl rfl (sem_recv c 1) (src := rowsM (k0_off6 c 2#32) (k0_off6_inb c 1)) (dst := rowsM (k0_off6 c 2#32) (k0_off6_inb c 1)) (credit _)) $$ HS; iintro HS
  iapply (step_recv m ρ K c 2 (n := 2) (n' := 3) rfl rfl (sem_recv c 2) (src := rowsM (k0_off6 c 3#32) (k0_off6_inb c 2)) (dst := rowsM (k0_off6 c 3#32) (k0_off6_inb c 2)) (credit _)) $$ HS; iintro HS
  iapply (step_recv m ρ K c 3 (n := 3) (n' := 4) rfl rfl (sem_recv c 3) (src := rowsM (k0_off6 c 4#32) (k0_off6_inb c 3)) (dst := rowsM (k0_off6 c 4#32) (k0_off6_inb c 3)) (credit _)) $$ HS; iintro HS
  iapply (step_recv m ρ K c 4 (n := 4) (n' := 5) rfl rfl (sem_recv c 4) (src := rowsM (k0_off6 c 5#32) (k0_off6_inb c 4)) (dst := rowsM (k0_off6 c 5#32) (k0_off6_inb c 4)) (credit _)) $$ HS; iintro HS
  iapply (step_recv m ρ K c 5 (n := 5) (n' := 6) rfl rfl (sem_recv c 5) (src := rowsM (k0_off6 c 6#32) (k0_off6_inb c 5)) (dst := rowsM (k0_off6 c 6#32) (k0_off6_inb c 5)) (credit _)) $$ HS; iintro HS
  iapply (step_recv m ρ K c 6 (n := 6) (n' := 7) rfl rfl (sem_recv c 6) (src := rowsM (k0_off6 c 7#32) (k0_off6_inb c 6)) (dst := rowsM (k0_off6 c 7#32) (k0_off6_inb c 6)) (credit _)) $$ HS; iintro HS
  unfold recvSt recvGot
  rw [below_seven, bigSep_sep']
  icases HS with ⟨-, HO, -, Hsl, HzV⟩
  -- the candidates loaded, the result stored
  ihave H := (gather_kept c (gath m ρ)) $$ [Hkept Hsl]
  · isplitl [Hkept] <;> iassumption
  icases H with ⟨Hg, Hlent⟩
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Hout; iintro Hout
  iapply (wp_store 𝒱₀ (c : Thread nD τ) none Set.univ (m := oM) (r := out0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := out1) (Mk := Finset.univ) (Finset.subset_univ _)) $$ Hout; iintro Hout
  -- the waits for the seven copies to have been read
  ihave HS := (show iprop(records m ρ K ∗ owing c 0 ∗ readRes (F := F) c 0 ∗ readGot m ρ c 0) ⊢ readSt m ρ K c 0 from BI.Entails.refl _) $$ [HO HcS HaS]
  · isplitr; · iexact HR
    isplitl [HO]; · iexact HO
    isplitl [HcS HaS]
    · unfold readRes; rw [up_zero, bigSep_sep']
      isplitl [HcS] <;> iassumption
    unfold readGot; rw [below_zero, BI.bigSep_empty]; iempintro
  iapply (step_read m ρ K c 0 (n := 0) (n' := 1) rfl rfl rfl (src := slotM c) (dst := slotM c) rfl) $$ HS; iintro HS
  iapply (step_read m ρ K c 1 (n := 1) (n' := 2) rfl rfl rfl (src := slotM c) (dst := slotM c) rfl) $$ HS; iintro HS
  iapply (step_read m ρ K c 2 (n := 2) (n' := 3) rfl rfl rfl (src := slotM c) (dst := slotM c) rfl) $$ HS; iintro HS
  iapply (step_read m ρ K c 3 (n := 3) (n' := 4) rfl rfl rfl (src := slotM c) (dst := slotM c) rfl) $$ HS; iintro HS
  iapply (step_read m ρ K c 4 (n := 4) (n' := 5) rfl rfl rfl (src := slotM c) (dst := slotM c) rfl) $$ HS; iintro HS
  iapply (step_read m ρ K c 5 (n := 5) (n' := 6) rfl rfl rfl (src := slotM c) (dst := slotM c) rfl) $$ HS; iintro HS
  iapply (step_read m ρ K c 6 (n := 6) (n' := 7) rfl rfl rfl (src := slotM c) (dst := slotM c) rfl) $$ HS; iintro HS
  unfold readSt readGot owing
  rw [below_seven, bigSep_sep']
  icases HS with ⟨-, ⟨%W', HO⟩, -, Hmine, HzS⟩
  -- the two cells nothing is counted on close as they are
  imod (close_unused m ρ K c (.inr (.inl 0)) (dutiesOf_send0 c)) $$ [HaS0] with HzS0
  · isplitr; · iexact HR
    iexact HaS0
  imod (close_unused m ρ K c (.inr (.inr c)) (dutiesOf_own c)) $$ [HaV0] with HzV0
  · isplitr; · iexact HR
    iexact HaV0
  rw [wp_ret]; imodintro
  iapply Hk
  unfold bodyPost Φ₁ scratch Dat.owesAt Pipeline.owesWithin
  rw [show (dats m ρ 0 c).owed t0_0.succ = 0 from rfl, cells_split c fun k => semVal (kcell (c, k)) 0]
  isplitl [Hg Hlent Hmine HzB HzS0 HzS HzV0 HzV]
  · isplitl [Hg Hlent Hmine]
    · iexists (gath m ρ)
      iapply (whole_lend c (gath m ρ)).2
      isplitl [Hg]; · iexact Hg
      isplitl [Hmine] <;> iassumption
    isplitl [HzB]; · iexact HzB
    isplitl [HzS0 HzS]
    · isplitl [HzS0] <;> iassumption
    isplitl [HzV0] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; exact out_written m ρ g1)
  iexact Hout

end Body

end Cert.ExchangeProof

end
-- ==== Proof.Launch.lean ====
module

public import proofs.«01_k».proof.Proof.Body
public import Idealize.ShloMosaic.Lib.Pipeline.CollectiveSegs

/-!
# The launch

The exchange's cells and tokens set up, each token at the device that pays its duty; what is owed at launch, as credit;
and the run of all eight devices.
-/

@[expose] public section

set_option maxRecDepth 16384

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The library's body obligation at device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show iprop(Φ₀ m ρ c ∗ (dats m ρ 0 c).owesAt () t0_0.castSucc
      ∗ (∃ d, stg c cc0_stg0_0 ((dats m ρ 0 c).before (0 : Fin 2) t0_0 d))
      ∗ (∃ d, stg c cc0_stg1_0 ((dats m ρ 0 c).before (1 : Fin 2) t0_0 d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2) (fun _ => bodyPost m ρ c)
  unfold Φ₀ start
  iintro ⟨⟨⟨⟨%K, Hg⟩, HcB, HcV, Hlev⟩, Hscr⟩, Ho, Hx, Hout⟩
  iapply (sound_body m ρ K c fun _ => bodyPost m ρ c)
  unfold bodyPre
  isplitr []
  · isplitl [Hg HcB HcV Hlev Hscr]
    · isplitl [Hg]; · iexact Hg
      isplitl [HcB]; · iexact HcB
      isplitl [HcV]; · iexact HcV
      isplitl [Hlev] <;> iassumption
    isplitl [Ho]; · iexact Ho
    isplitl [Hx] <;> iassumption
  · iintro H; iexact H

/-! ## Cells and tokens -/

/-- The kernel's own semaphores are distinct, and none of them is the pipeline's. -/
theorem ownSemFacts : Pipeline.OwnSemFacts cfg0.spec osem := by decide

/-- Every window's array is held at the full share. -/
theorem share_eq (c : Dev nD) (w : Fin cfg0.W) : (dats m ρ 0 c).share w = fullShare := by unfold Dat.share; split <;> rfl

/-- The semaphores of a device's cells are distinct. -/
theorem csem_injective : Function.Injective csem := by decide
/-- The cells are distinct. -/
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All cells of the exchange. -/
def exCells : Finset (GSem nD τ sig) := Finset.univ.map ⟨kcell, kcell_injective⟩

/-- The duties device `c` pays towards the `q`-th device: its unit there, its copy read here, its copy landed there. -/
abbrev tokOf (x : Dev nD × Fin 7 × Fin 3) : GSem nD τ sig × ℕ × Dev nD := match x.2.2 with
  | 0 => (barCell (nb x.1 x.2.1), 0, x.1) | 1 => (sendCell x.1 x.2.1.succ, 0, x.1) | 2 => (recvCell (nb x.1 x.2.1) x.1, 0, x.1)
/-- A duty's semaphore tells which of the three it is. -/
abbrev kindOf : SemLoc sig → Fin 3
  | .reg _ => 0 | .dma x => if 10 ≤ x.val then 2 else 1
/-- A duty's semaphore is of the duty's kind. -/
theorem kind_tok (x : Dev nD × Fin 7 × Fin 3) : kindOf (tokOf x).1.2 = x.2.2 := by revert x; decide +kernel
/-- The duties are distinct. -/
theorem tokOf_injective : Function.Injective tokOf := by
  rintro ⟨c, q, j⟩ ⟨c', q', j'⟩ h
  have hj : j = j' := (kind_tok (c, q, j)).symm.trans ((congrArg (fun x => kindOf x.1.2) h).trans (kind_tok (c', q', j')))
  subst hj
  have hc : c = c' := by
    have := congrArg (fun x : GSem nD τ sig × ℕ × Dev nD => x.2.2) h
    fin_cases j <;> exact this
  subst hc
  have hq : q = q' := by
    fin_cases j
    · exact nb_inj c (congrArg (fun x : GSem nD τ sig × ℕ × Dev nD => x.1.1.1) h)
    · have h2 : (SemLoc.dma (sendS q.succ) : SemLoc sig) = .dma (sendS q'.succ) := congrArg (fun x : GSem nD τ sig × ℕ × Dev nD => x.1.2) h
      have h3 : (Sum.inr (Sum.inl q.succ) : CK) = .inr (.inl q'.succ) := csem_injective h2
      exact Fin.succ_injective _ (Sum.inl_injective (Sum.inr_injective h3))
    · exact nb_inj c (congrArg (fun x : GSem nD τ sig × ℕ × Dev nD => x.1.1.1) h)
  rw [hq]
/-- All tokens of the exchange. -/
def exToks : Finset (GSem nD τ sig × ℕ × Dev nD) := Finset.univ.map ⟨tokOf, tokOf_injective⟩

/-- The launch element: the pipeline's rounds and the exchange's. -/
def u₀ : UU :=
  (initOf (Pipeline.cells cfgs cellOf_inj) (Pipeline.launchToks cfgs cellOf_inj), initOf exCells exToks)

/-- The tokens of the duties device `c` pays. -/
def toks (c : Dev nD) : sProp 𝕄 := bigSep Finset.univ fun q : Fin 7 => payTok (F := F) c q

/-- What the launch element deals device `c`. -/
def G (c : Dev nD) : sProp 𝕄 :=
  iprop((bigSep Finset.univ fun k : CK => roundState ER (exRd m ρ) (kcell (c, k)) 0)
    ∗ (bigSep Finset.univ fun k : CK => iprop(atPos ER (kcell (c, k)) 0 ∅ 0 ∗ reached ER (kcell (c, k)) 0)) ∗ toks (F := F) c)

/-- What the step over all devices makes of it. -/
def G' (c : Dev nD) : sProp 𝕄 := iprop(∃ K, ghost m ρ K c)

omit [FloatOps F] in
/-- A conjunction over three. -/
theorem bigSep_fin3 (Φ : Fin 3 → sProp 𝕄) : bigSep Finset.univ Φ = iprop(Φ 0 ∗ Φ 1 ∗ Φ 2) := bigSep_univ_eq_bigSepL [0, 1, 2] (by decide) (by decide) Φ

/-- The exchange's launch element pays for every device's cells, positions and tokens. -/
theorem fund_exchange : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks (F := F) c := by
    unfold exToks; rw [bigSep_map, bigSep_univ_prod]
    refine bigSep_congr fun c _ => ?_
    rw [bigSep_univ_prod]; unfold toks
    exact bigSep_congr fun q _ => by unfold payTok; rw [bigSep_fin3]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's counters at zero are those of its cells. -/
theorem sems0_eq (c : Dev nD) :
    (bigSep Finset.univ fun k : CK => semVal (kcell (c, k)) 0 : sProp 𝕄)
      = iprop(unscopedSems0 c ∗ Pipeline.ownSems0 (Ix := Unit) (Name := ℕ) (U := UU) (Lvl := ℕ) (Val := Elt F) (τ := τ) osem c) := by
  refine (BI.bigSep_univ_sum _).trans ?_
  rw [BI.bigSep_univ_of_subsingleton (), unscopedSems0_eq]; rfl

/-- On a device, counters at zero and the cells' states become the cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (exRd m ρ) κ (kcell (c, k))))
          ∗ (bigSep Finset.univ fun k : CK => iprop(atPos ER (kcell (c, k)) 0 ∅ 0 ∗ reached ER (kcell (c, k)) 0)) ∗ toks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CK => semVal (kcell (c, k)) 0) ∗ bigSep Finset.univ fun k : CK => roundState ER (exRd m ρ) (kcell (c, k)) 0)
      ⊢ (|={Set.univ}=> bigSep Finset.univ fun k : CK => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions and the tokens of the duties it pays. -/
def linear (c : Dev nD) : sProp 𝕄 :=
  iprop((bigSep Finset.univ fun k : CK => atPos ER (kcell (c, k)) 0 ∅ 0) ∗ toks (F := F) c)

/-- The records and what stays with a device are what its body starts from. -/
theorem ghost_intro (K : Dev nD × CK → ℕ) (c : Dev nD) : iprop(records m ρ K ∗ linear (F := F) c) ⊢ G' m ρ c := by
  unfold linear toks G' ghost
  iintro ⟨#HR, Ha, Ht⟩
  iexists K
  isplitr; · iexact HR
  isplitl [Ha] <;> iassumption

/-- The invariants of all devices, gathered, are records that every device holds. -/
theorem regroup :
    (bigSep Finset.univ fun c : Dev nD => iprop((bigSep Finset.univ fun k : CK => iprop(∃ κ : ℕ, cellInv ER (exRd m ρ) κ (kcell (c, k))))
          ∗ (bigSep Finset.univ fun k : CK => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × CK => iprop(∃ κ : ℕ, cellInv ER (exRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (exRd m ρ) κ (kcell ck) : sProp 𝕄))) $$ HI
  icases HK with ⟨%K, #HI⟩
  iapply (BI.bigSep_with_persistent (R := records m ρ K) fun c _ => ghost_intro m ρ K c)
  isplitr
  · unfold records; isplitl; · iexact HI
    iexact HR
  · unfold linear; rw [bigSep_sep']
    isplitl [Hat] <;> iassumption

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A sum of tallies, read at a cell. -/
theorem sum_tally (f : Fin 7 → GSem nD τ sig) (k : ℕ) (g : GSem nD τ sig) :
    (∑ q ∈ up 0, tallyAt (f q) () k : CellTallies nD τ sig Unit) g () = ∑ q : Fin 7, if g = f q then k else 0 := by
  rw [Finset.sum_apply, Finsupp.finset_sum_apply, up_zero]
  exact Finset.sum_congr rfl fun q _ => by rw [tallyAt_apply]; exact if_congr (and_iff_left rfl) rfl rfl

/-- No barrier cell is a receive cell. -/
theorem bar_ne_recv (a b s : Dev nD) : barCell a ≠ recvCell b s := fun h => by
  have := congrArg Prod.snd h; cases this

/-- What device `d` owes the barrier cell of `c`: a unit for every way `c` lies around `d`. -/
theorem owed_bar (d c : Dev nD) : O₀ d (barCell c) () = ∑ q : Fin 7, if c = nb d q then 1 else 0 := by
  unfold O₀ Orecv Obar
  rw [Pi.add_apply, Finsupp.add_apply, sum_tally, sum_tally, Finset.sum_eq_zero fun q _ => if_neg (bar_ne_recv c (nb d q) d), Nat.zero_add]
  exact Finset.sum_congr rfl fun q _ => if_congr ⟨fun h => congrArg (fun g : GSem nD τ sig => g.1.1) h, fun h => by rw [h]⟩ rfl rfl
/-- What device `d` owes the receive cell of `c` for `s`. -/
theorem owed_recv (d c s : Dev nD) : O₀ d (recvCell c s) () = ∑ q : Fin 7, if c = nb d q ∧ s = d then N else 0 := by
  unfold O₀ Orecv Obar
  rw [Pi.add_apply, Finsupp.add_apply, sum_tally, sum_tally, Finset.sum_eq_zero (s := Finset.univ) (f := fun q => if recvCell c s = barCell (nb d q) then 1 else 0)
    fun q _ => if_neg fun h => bar_ne_recv _ _ _ h.symm, Nat.add_zero]
  refine Finset.sum_congr rfl fun q _ => if_congr ⟨fun h => ⟨congrArg (fun g : GSem nD τ sig => g.1.1) h, ?_⟩, fun h => by rw [h.1, h.2]⟩ rfl rfl
  have h2 : (Sum.inr (Sum.inr s) : CK) = .inr (.inr d) := csem_injective (congrArg Prod.snd h)
  exact Sum.inr_injective (Sum.inr_injective h2)

/-- Seven devices have `c` around them. -/
theorem total_bar (c : Dev nD) : (∑ d : Dev nD, ∑ q : Fin 7, if c = nb d q then 1 else 0) = 7 := by revert c; decide +kernel
/-- One device pays the receive cell of `c` for a device around it. -/
theorem total_recv (c : Dev nD) (q : Fin 7) (n : ℕ) : (∑ d : Dev nD, ∑ p : Fin 7, if c = nb d p ∧ nb c q = d then n else 0) = n := by
  have h : (∑ d : Dev nD, ∑ p : Fin 7, if c = nb d p ∧ nb c q = d then 1 else 0) = 1 := by revert c q; decide +kernel
  calc (∑ d : Dev nD, ∑ p : Fin 7, if c = nb d p ∧ nb c q = d then n else 0)
      = ∑ d : Dev nD, ∑ p : Fin 7, n * (if c = nb d p ∧ nb c q = d then 1 else 0) := by simp only [mul_ite, mul_one, mul_zero]
    _ = n := by simp only [← Finset.mul_sum]; rw [h, mul_one]

/-- A barrier cell's credit at launch: seven units. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, total_bar]

/-- A receive cell's credit at launch: that of one slot. -/
theorem launch_recv (c : Dev nD) (q : Fin 7) :
    tallyOn (recvCell c (nb c q)) (launchCredit (Pipeline.owing O₀) 0 (recvCell c (nb c q))) = (tallyAt (recvCell c (nb c q)) () N : CellTallies nD τ sig Unit) := by
  unfold tallyAt; refine congrArg _ (Finsupp.ext fun u => ?_); cases u
  rw [Pipeline.launchCredit_owing, Finsupp.single_eq_same, Finset.sum_congr rfl fun d _ => owed_recv d c (nb c q), total_recv]

/-- The receive semaphores of `c` for the devices around, as an embedding. -/
def recvE (c : Dev nD) : Fin 7 ↪ SemLoc sig := ⟨fun q => .dma (recvS (nb c q)), fun a b h =>
  nb_inj c (Sum.inr_injective (Sum.inr_injective (csem_injective (a₁ := .inr (.inr (nb c a))) (a₂ := .inr (.inr (nb c b))) h)))⟩

omit [FloatOps F] in
/-- What the launch credits a device with covers its waits on the barrier and on the arrivals. -/
theorem creds (c : Dev nD) :
    (Pipeline.launchCred O₀ c : sProp 𝕄) ⊢ iprop(cred (tallyAt (barCell c) () 7) ∗ bigSep Finset.univ fun q : Fin 7 => cred (tallyAt (recvCell c (nb c q)) () N)) := by
  have e : (bigSep Finset.univ fun q : Fin 7 => (cred (tallyAt (recvCell c (nb c q)) () N) : sProp 𝕄))
      = bigSep (Finset.univ.map (recvE c)) fun sm => cred (tallyOn ((c : Thread nD τ), sm) (launchCredit (Pipeline.owing O₀) 0 ((c : Thread nD τ), sm))) := by
    rw [bigSep_map]
    exact bigSep_congr fun q _ => congrArg cred (launch_recv c q).symm
  unfold Pipeline.launchCred
  rw [bigSep_univ_at _ (SemLoc.reg barS), launch_bar, e]
  refine sep_mono_right (bigSep_subset fun x hx => ?_)
  obtain ⟨q, hq, rfl⟩ := Finset.mem_map.mp hx
  refine Finset.mem_erase.mpr ⟨fun h => ?_, Finset.mem_univ _⟩
  cases h

/-! ## The side conditions -/

/-- What the launch deals a device is what its region starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- With the scratch, it is the state before the one grid point. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- The state after the one grid point gives back the scratch and the counters at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratch
  rw [sems0_eq]
  iintro ⟨Hr, Hu, Ho⟩
  isplitl [Hu]; · iexact Hu
  isplitl [Ho] <;> iassumption

/-- The pipeline's own waits are allowed below all that a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array of device `c` holds at the end. -/
def finalA (c : Dev nD) (w : Fin cfg0.W) : Buf (Elt F) ((cfg0.win w).arr.view.loc (c : Thread nD τ)) := (dats m ρ 0 c).arrAt w cfg0.N

/-- Every array holds that. -/
def QC : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution on the eight devices ends, each device's arrays as
    computed and every counter at zero: for any float values. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.ExchangeProof

end
-- ==== Proof.Reference.lean ====
module

public import proofs.«01_k».proof.Proof.Gen.ReferenceIdeal
public import Idealize.ShloMosaic.Lib.StableHlo.Run
public import Idealize.ShloMosaic.Lib.Quiescent

/-!
# The reference's run

Its operations in order, as one list, and what they leave in the result: a function of the argument's contents.
-/

@[expose] public section

set_option maxRecDepth 16384

noncomputable section

namespace Cert.ReferenceProof

open Cert.ReferenceIdeal Cert.ReferenceIdeal.Gen
open Idealize.ShloMosaic Idealize.ShloMosaic.TcCoe Idealize.ShloMosaic.StableHlo Idealize.SL.Sem

variable {F : FTy → Type} [FloatOps F]

/-- The row number of each column's maximum, as the reference computes it. -/
def argRow (x : FVec F S2048x256 .bf16) : IVec S256 32 := fun j =>
  (Host.argReduce reducer_argmax_bf16_i32 x (iotaInDim S2048x256 32 0) (constant S_ .bf16 0xFF80#16) (constantI S_ 32 0#32)
    reducesTo_S2048x256_S256_d0 h_S_ j).2

/-- Each column's maximum. -/
def maxRow (x : FVec F S2048x256 .bf16) : FVec F S256 .bf16 :=
  Host.reduce FloatOps.maximumf x (constant S_ .bf16 0xFF80#16) reducesTo_S2048x256_S256_d0 h_S_

/-- One row over another. -/
def stack (a b : FVec F S1x256 .f32) : FVec F S2x256 .f32 :=
  concatenate S2x256 0 [⟨S1x256, a⟩, ⟨S1x256, b⟩] concatenates_S1x256_S1x256_S2x256_d0

/-- The reference's result: the maxima over the row numbers. -/
def refOut (x : FVec F S2048x256 .bf16) : FVec F S2x256 .f32 :=
  stack (broadcastInDim S1x256 ![1] bcast_S256_S1x256_1 (extf .f32 (maxRow x) bitsLt_bf16_f32))
    (broadcastInDim S1x256 ![1] bcast_S256_S1x256_1 (sitofp .f32 (argRow x)))

/-- The reference's operations, in order. -/
abbrev ops : List (HloOp τ sig (Elt F)) :=
  [ TRef.nullary main_call0.v0 (iotaInDim S2048x256 32 0),
    TRef.nullary main_call0.cst (constant S_ .bf16 0xFF80#16),
    TRef.nullary main_call0.c (constantI S_ 32 0#32),
    TRef.quaternary (.of main_arg0) main_call0.v0 main_call0.cst main_call0.c main_call0.v1_0 (fun x y u v j => (Host.argReduce reducer_argmax_bf16_i32 x y u v reducesTo_S2048x256_S256_d0 h_S_ j).1),
    TRef.quaternary (.of main_arg0) main_call0.v0 main_call0.cst main_call0.c main_call0.v1_1 (fun x y u v j => (Host.argReduce reducer_argmax_bf16_i32 x y u v reducesTo_S2048x256_S256_d0 h_S_ j).2),
    unary main_v0 main_v1 (sitofp .f32),
    nullary main_cst (constant S_ .bf16 0xFF80#16),
    binary main_arg0 main_cst main_v2 (fun x v => Host.reduce FloatOps.maximumf x v reducesTo_S2048x256_S256_d0 h_S_),
    unary main_v2 main_v3 (extf .f32 · bitsLt_bf16_f32),
    unary main_v3 main_v4 (broadcastInDim S1x256 ![1] bcast_S256_S1x256_1),
    unary main_v1 main_v5 (broadcastInDim S1x256 ![1] bcast_S256_S1x256_1),
    binary main_v4 main_v5 main_v6 stack ]

/-- The reference's program is these operations one after another. -/
theorem main_eq (c : Dev nD) : main (F := F) c = seq ops := by
  simp only [main, fn_argmax.body, seq, bind_assoc, pure_bind]
  rfl

/-- The result buffer after them. -/
theorem out_eq (V : Valuation τ sig (Elt F)) :
    after ops V (main_v6 : DevRef τ sig) = refOut (V (main_arg0 : DevRef τ sig)) := by
  after_results_simp
  rfl

/-- No operation writes the argument. -/
theorem arg_eq (V : Valuation τ sig (Elt F)) : after ops V (main_arg0 : DevRef τ sig) = V (main_arg0 : DevRef τ sig) := by
  simp only [after_cons, after_nil]
  rfl

/-- The reference has no scoped buffer, -/
theorem scopedRefs_eq : (Finset.univ.filter fun b : Ref sig .tc => b.isScoped) = ∅ := by decide
/-- and no scoped semaphore. -/
theorem scopedSems_eq : (Finset.univ.filter fun sm : SemLoc sig => sm.isScoped .tc) = ∅ := by decide

/-- The operations touch only the buffers the program declares. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub ..,
    unary_bufs_sub .., nullary_bufs_sub .., binary_bufs_sub .., unary_bufs_sub .., unary_bufs_sub .., unary_bufs_sub ..,
    binary_bufs_sub ..⟩

/-- The reference terminates; its result is `refOut` of its argument, which keeps its contents. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6) = refOut (m ((c.tc : Thread nD τ).loc main_arg0))
        ∧ r.2.mem ((c.tc : Thread nD τ).loc main_arg0) = m ((c.tc : Thread nD τ).loc main_arg0)) ∧ r.2.sem = fun _ => 0 :=
  (θ_run defs _ _).mono
    (fun r h => ⟨fun c => ⟨(h c main_v6).trans (out_eq _), (h c main_arg0).trans (arg_eq _)⟩,
      Idealize.ShloMosaic.sem_eq_zero_of_no_sems (by decide) r.2⟩)
    (run_seq scopedRefs_eq scopedSems_eq defs main (fun _ => ops) main_eq (fun _ => ops_sub) m ρ)

end Cert.ReferenceProof

end
-- ==== Proof.First.lean ====
module

public import proofs.«01_k».proof.Proof.Reference
public import Idealize.ShloMosaic.PureOps.Ideal.Laws
public import Idealize.ShloMosaic.Lib.ValueIdxCore

/-!
# The first row attaining a maximum

Over the extended reals: the row a fold keeps, as a condition on the column; the least row number a fold of words
finds; a column of 2048 rows cut in 8 parts of 256.
-/

@[expose] public section

noncomputable section

namespace Cert.FirstRow

open Idealize.ShloMosaic

/-- Row `r` is the first at which the column `g` attains its maximum. -/
def IsFirst {n : ℕ} (g : Fin n → EReal) (r : Fin n) : Prop := (∀ k, g k ≤ g r) ∧ ∀ k, g k = g r → r ≤ k

/-- A column has a first maximal row. -/
theorem exists_first {n : ℕ} (g : Fin (n + 1) → EReal) : ∃ r, IsFirst g r := by
  obtain ⟨t, ht⟩ := Finite.exists_max g
  have hex : ∃ k : ℕ, ∃ h : k < n + 1, g ⟨k, h⟩ = g t := ⟨t.val, t.isLt, rfl⟩
  classical
  obtain ⟨h, he⟩ := Nat.find_spec hex
  refine ⟨⟨Nat.find hex, h⟩, fun k => (ht k).trans he.ge, fun k hk => ?_⟩
  exact Fin.mk_le_of_le_val (Nat.find_min' hex ⟨k.isLt, hk.trans he⟩)

/-- The maximum of a column, folded from minus infinity. -/
theorem IsFirst.fold_max {n : ℕ} {g : Fin n → EReal} {r : Fin n} (h : IsFirst g r) :
    (Finset.univ : Finset (Fin n)).fold max ⊥ g = g r :=
  le_antisymm (Finset.fold_max_le _ |>.2 ⟨bot_le, fun k _ => h.1 k⟩) (Finset.le_fold_max _ |>.2 (.inr ⟨r, Finset.mem_univ _, le_rfl⟩))

/-! ## The least row number, in words -/

/-- The smaller of two words, read as an integer. -/
theorem toInt_minsi (a b : BitVec 32) : (IKind.minsi.op a b).toInt = min a.toInt b.toInt := by
  show (if a.slt b then a else b).toInt = _
  by_cases h : a.toInt < b.toInt
  · rw [if_pos (by simpa [BitVec.slt] using h), min_eq_left h.le]
  · rw [if_neg (by simpa [BitVec.slt] using h), min_eq_right (not_lt.1 h)]

/-- A word of a small number read back. -/
theorem toInt_ofNat {k : ℕ} (h : k < 2147483648) : (BitVec.ofNat 32 k).toInt = k := by
  rw [BitVec.toInt_eq_toNat_of_lt (by rw [BitVec.toNat_ofNat]; omega), BitVec.toNat_ofNat]
  omega

/-- The least row number at which a part's column attains its maximum: the words of the rows that do not are 256. -/
theorem IsFirst.fold_min {g : Fin 256 → EReal} {r : Fin 256} (h : IsFirst g r) (w : Fin 256 → BitVec 32)
    (hw : ∀ k, w k = if g k = g r then BitVec.ofNat 32 k.val else 256#32) :
    (Finset.univ : Finset (Fin 256)).fold IKind.minsi.op 2147483647#32 w = BitVec.ofNat 32 r.val := by
  refine BitVec.eq_of_toInt_eq ?_
  rw [← Finset.fold_hom (op' := min) toInt_minsi, toInt_ofNat (k := r.val) (by omega)]
  have hk : ∀ k, (w k).toInt = if g k = g r then (k.val : ℤ) else 256 := fun k => by
    rw [hw k]; split
    · exact toInt_ofNat (by omega)
    · rfl
  refine le_antisymm (Finset.fold_min_le _ |>.2 (.inr ⟨r, Finset.mem_univ _, ?_⟩)) (Finset.le_fold_min _ |>.2 ⟨?_, fun k _ => ?_⟩)
  · rw [hk r, if_pos rfl]
  · have : (2147483647#32 : BitVec 32).toInt = 2147483647 := rfl
    omega
  · rw [hk k]; split
    · rename_i e; have := h.2 k e; have : r.val ≤ k.val := this; omega
    · omega

/-! ## A column in 8 parts -/

/-- Row `k` of part `s`. -/
def row (s : Fin 8) (k : Fin 256) : Fin 2048 := ⟨s.val * 256 + k.val, by omega⟩

/-- Every row is a row of a part. -/
theorem exists_row (r : Fin 2048) : ∃ s k, row s k = r :=
  ⟨⟨r.val / 256, by omega⟩, ⟨r.val % 256, by omega⟩, Fin.ext (by show r.val / 256 * 256 + r.val % 256 = r.val; omega)⟩

section Parts

variable {x : Fin 2048 → EReal} {r : Fin 2048} (hr : IsFirst x r) {loc : Fin 8 → Fin 256}
  (hloc : ∀ s, IsFirst (fun k => x (row s k)) (loc s))

include hr hloc

/-- The maximum of the parts' maxima is the column's. -/
theorem merge_max : (Finset.univ : Finset (Fin 8)).fold max ⊥ (fun s => x (row s (loc s))) = x r := by
  obtain ⟨s, k, e⟩ := exists_row r
  refine le_antisymm (Finset.fold_max_le _ |>.2 ⟨bot_le, fun s _ => hr.1 _⟩)
    (Finset.le_fold_max _ |>.2 (.inr ⟨s, Finset.mem_univ _, ?_⟩))
  rw [← e]; exact (hloc s).1 k

/-- The least of the row numbers of the parts attaining it is the column's first maximal row. -/
theorem merge_min (y : Fin 8 → EReal)
    (hy : ∀ s, y s = if x (row s (loc s)) = x r then (((row s (loc s)).val : ℝ) : EReal) else ((4096 : ℝ) : EReal)) :
    (Finset.univ : Finset (Fin 8)).fold min ⊤ y = ((r.val : ℝ) : EReal) := by
  obtain ⟨s, k, e⟩ := exists_row r
  have hs : x (row s (loc s)) = x r := le_antisymm (hr.1 _) (by conv_lhs => rw [← e]
                                                                exact (hloc s).1 k)
  refine le_antisymm (Finset.fold_min_le _ |>.2 (.inr ⟨s, Finset.mem_univ _, ?_⟩)) (Finset.le_fold_min _ |>.2 ⟨le_top, fun t _ => ?_⟩)
  · rw [hy s, if_pos hs, EReal.coe_le_coe_iff, Nat.cast_le, ← e]
    have : loc s ≤ k := (hloc s).2 k (by show x (row s k) = x (row s (loc s)); rw [e, hs])
    have : (loc s).val ≤ k.val := this
    show s.val * 256 + (loc s).val ≤ s.val * 256 + k.val
    omega
  · rw [hy t]; split
    · rename_i h
      rw [EReal.coe_le_coe_iff, Nat.cast_le]
      exact hr.2 _ h
    · rw [EReal.coe_le_coe_iff]
      have := r.isLt
      exact_mod_cast (by omega : r.val ≤ 4096)

end Parts

/-! ## The fold keeping a value and its row -/

section Fold

open Cert.ReferenceIdeal Cert.ReferenceIdeal.Gen

/-- What the reference's fold keeps of two pairs: the greater value's, on equal values the lesser row's. -/
theorem reducer_eq (a b : Ideal .bf16 × BitVec 32) :
    reducer_argmax_bf16_i32 (F := Ideal) a b
      = if (b.1 : EReal) < a.1 ∨ ((a.1 : EReal) = b.1 ∧ a.2.toInt < b.2.toInt) then a else b := by
  obtain ⟨a, i⟩ := a
  obtain ⟨b, k⟩ := b
  unfold reducer_argmax_bf16_i32
  simp only [Ideal.cmpf_def, Ideal.cmp, IntOp.cmpi, IntOp.ori, IntOp.andi, Scalar.select, BitVec.slt]
  rcases lt_trichotomy (a : EReal) b with h | h | h
  · simp [h, h.ne, h.not_gt]
  · subst h
    by_cases hi : i.toInt < k.toInt <;> simp [hi]
  · simp [h, h.ne']

/-- The pair a fold keeps is one of the pairs, and none of them is ahead of it. -/
theorem foldl_reducer (l : List (Ideal .bf16 × BitVec 32)) (p : Ideal .bf16 × BitVec 32) :
    l.foldl (reducer_argmax_bf16_i32 (F := Ideal)) p ∈ p :: l
      ∧ ∀ q ∈ p :: l, (q.1 : EReal) < (l.foldl (reducer_argmax_bf16_i32 (F := Ideal)) p).1
          ∨ ((q.1 : EReal) = (l.foldl (reducer_argmax_bf16_i32 (F := Ideal)) p).1
              ∧ (l.foldl (reducer_argmax_bf16_i32 (F := Ideal)) p).2.toInt ≤ q.2.toInt) := by
  induction l generalizing p with
  | nil => exact ⟨List.mem_singleton.2 rfl, fun q hq => by rw [List.mem_singleton.1 hq]; exact .inr ⟨rfl, le_rfl⟩⟩
  | cons b l ih =>
    obtain ⟨h1, h2⟩ := ih (reducer_argmax_bf16_i32 (F := Ideal) p b)
    rw [List.foldl_cons]
    generalize hk : l.foldl (reducer_argmax_bf16_i32 (F := Ideal)) (reducer_argmax_bf16_i32 (F := Ideal) p b) = k at h1 h2
    have hb := h2 _ (List.mem_cons_self ..)
    rw [reducer_eq] at h1 hb
    have rest : ∀ q ∈ l, (q.1 : EReal) < k.1 ∨ ((q.1 : EReal) = k.1 ∧ k.2.toInt ≤ q.2.toInt) :=
      fun q hq => h2 q (List.mem_cons_of_mem _ hq)
    split at h1
    · rename_i hc
      rw [if_pos hc] at hb
      refine ⟨?_, ?_⟩
      · rcases List.mem_cons.1 h1 with h | h <;> simp [h]
      · intro q hq
        rcases List.mem_cons.1 hq with h | hq
        · rw [h]; exact hb
        rcases List.mem_cons.1 hq with h | hq
        · rw [h]
          rcases hc with hc | ⟨e, hlt⟩
          · rcases hb with hb | ⟨hb, _⟩
            · exact .inl (hc.trans hb)
            · exact .inl (hb ▸ hc)
          · rw [← e]
            exact hb.imp_right fun hb => ⟨hb.1, hb.2.trans hlt.le⟩
        · exact rest q hq
    · rename_i hc
      rw [if_neg hc] at hb
      push Not at hc
      refine ⟨List.mem_cons_of_mem _ h1, ?_⟩
      intro q hq
      rcases List.mem_cons.1 hq with h | hq
      · rw [h]
        rcases lt_or_eq_of_le hc.1 with hlt | e
        · rcases hb with hb | ⟨hb, _⟩
          · exact .inl (hlt.trans hb)
          · exact .inl (hb ▸ hlt)
        · rw [e]
          exact hb.imp_right fun hb => ⟨hb.1, hb.2.trans (hc.2 e)⟩
      rcases List.mem_cons.1 hq with h | hq
      · rw [h]; exact hb
      · exact rest q hq

end Fold

end Cert.FirstRow

end
-- ==== Proof.RefValue.lean ====
module

public import proofs.«01_k».proof.Proof.First
public import Idealize.ShloMosaic.Lib.Pipeline.Value

/-!
# The reference's value

Over the extended reals: each column's maximum and, as a real number, the first row attaining it.
-/

@[expose] public section

noncomputable section

namespace Cert.RefValue

open Cert.ReferenceIdeal Cert.ReferenceIdeal.Gen Cert.ReferenceProof Cert.FirstRow
open Idealize.ShloMosaic Idealize.ShloMosaic.ValueIdx

/-- Minus infinity's pattern in the narrow format denotes the least extended real, -/
theorem ofBits_bot16 : Ideal.ofBits .bf16 0xFF80#16 = (⊥ : EReal) := by simp [Ideal.ofBits, Ideal.ieee]
/-- in the wide format too; -/
theorem ofBits_bot32 : Ideal.ofBits .f32 0xFF800000#32 = (⊥ : EReal) := by simp [Ideal.ofBits, Ideal.ieee]
/-- plus infinity's denotes the greatest; -/
theorem ofBits_top32 : Ideal.ofBits .f32 0x7F800000#32 = (⊤ : EReal) := by simp [Ideal.ofBits, Ideal.ieee]
/-- and the number no row reaches. -/
theorem ofBits_4096 : Ideal.ofBits .f32 0x45800000#32 = ((4096 : ℝ) : EReal) := by
  simp [Ideal.ofBits, Ideal.ieee]
  rw [← EReal.coe_mul]
  norm_num

/-- A column of the argument. -/
def col (x : FVec Ideal S2048x256 .bf16) (j : Fin 256) : Fin 2048 → EReal := fun r => x (ix2 r j)

/-- The fact of the reference's reduction, as a kernel's would state it. -/
theorem reduces : S2048x256.Reduces [0] S256 := by decide

/-- The index over a column's number, at a row. -/
theorem lift_eq (j : S256.Idx) (k : Fin 2048) : reduces.lift j k = ix2 k (j 0) := by
  funext a
  fin_cases a <;> rfl

/-- The reference's maxima. -/
theorem maxRow_eq (x : FVec Ideal S2048x256 .bf16) (j : S256.Idx) {r : Fin 2048} (hr : IsFirst (col x (j 0)) r) :
    maxRow x j = x (ix2 r (j 0)) := by
  unfold maxRow
  rw [Host.reduce_eq_fold_single _ _ _ _ reduces, show x ∘ reduces.lift j = col x (j 0) from funext fun k => congrArg x (lift_eq j k)]
  show (Finset.univ : Finset (Fin 2048)).fold max (Ideal.ofBits .bf16 0xFF80#16) (col x (j 0)) = _
  rw [ofBits_bot16]
  exact hr.fold_max

/-- The pairs the reference folds over a column are each row's value with its number. -/
theorem mem_fiber (x : FVec Ideal S2048x256 .bf16) (j : S256.Idx) (p : Ideal .bf16 × BitVec 32) :
    p ∈ Host.argReduceFiber x (iotaInDim S2048x256 32 0) reducesTo_S2048x256_S256_d0 j
      ↔ ∃ k : Fin 2048, p = (x (ix2 k (j 0)), BitVec.ofNat 32 k.val) := by
  unfold Host.argReduceFiber
  simp only [List.mem_map, List.mem_filter, List.mem_finRange, true_and, decide_eq_true_eq]
  constructor
  · rintro ⟨n, hn, rfl⟩
    generalize S2048x256.rowMajor.symm n = i at hn
    refine ⟨i 0, ?_⟩
    have e : i = ix2 (i 0) (j 0) := by
      funext a
      fin_cases a
      · rfl
      · exact congrFun hn 0
    conv_lhs => rw [e]
    rfl
  · rintro ⟨k, rfl⟩
    refine ⟨S2048x256.rowMajor (ix2 k (j 0)), ?_, ?_⟩
    · rw [Equiv.symm_apply_apply]
      funext a
      fin_cases a
      rfl
    · rw [Equiv.symm_apply_apply]; rfl

/-- The reference's row numbers. -/
theorem argRow_eq (x : FVec Ideal S2048x256 .bf16) (j : S256.Idx) {r : Fin 2048} (hr : IsFirst (col x (j 0)) r) :
    argRow x j = BitVec.ofNat 32 r.val := by
  unfold argRow
  rw [Ideal.argReduce_eq_reduce2, Host.reduce2_eq_foldl_fiber]
  generalize hl : Host.argReduceFiber x (iotaInDim S2048x256 32 0) reducesTo_S2048x256_S256_d0 j = l
  have hm := fun p => hl ▸ mem_fiber x j p
  show (l.foldl (reducer_argmax_bf16_i32 (F := Ideal)) (Ideal.ofBits .bf16 0xFF80#16, 0#32)).2 = _
  rw [ofBits_bot16]
  obtain ⟨h1, h2⟩ := foldl_reducer l ((⊥ : EReal), 0#32)
  generalize l.foldl (reducer_argmax_bf16_i32 (F := Ideal)) ((⊥ : EReal), 0#32) = q at h1 h2
  have hr2 := h2 _ (List.mem_cons_of_mem _ ((hm _).2 ⟨r, rfl⟩))
  have hq : ∃ k : Fin 2048, q = (x (ix2 k (j 0)), BitVec.ofNat 32 k.val) := by
    rcases List.mem_cons.1 h1 with e | h
    · refine ⟨0, ?_⟩
      have h0 := h2 _ (List.mem_cons_of_mem _ ((hm _).2 ⟨0, rfl⟩))
      rw [e] at h0
      rcases h0 with h0 | h0
      · exact absurd h0 not_lt_bot
      · rw [e]; exact Prod.ext h0.1.symm rfl
    · exact (hm q).1 h
  obtain ⟨k, rfl⟩ := hq
  have hle : (x (ix2 k (j 0)) : EReal) ≤ x (ix2 r (j 0)) := hr.1 k
  rcases hr2 with h | ⟨e, h⟩
  · exact absurd h hle.not_gt
  · have hkr : r ≤ k := hr.2 k e.symm
    have hkr' : r.val ≤ k.val := hkr
    change (BitVec.ofNat 32 k.val).toInt ≤ (BitVec.ofNat 32 r.val).toInt at h
    rw [toInt_ofNat (by omega), toInt_ofNat (by omega)] at h
    exact congrArg (BitVec.ofNat 32) (by omega : k.val = r.val)

/-- The value both programs compute: the maxima over the first rows attaining them. -/
def value (x : FVec Ideal S2048x256 .bf16) (r : Fin 256 → Fin 2048) : FVec Ideal S2x256 .f32 := fun i =>
  if (i 0).val = 0 then x (ix2 (r (i 1)) (i 1)) else (((r (i 1)).val : ℝ) : EReal)

/-- Widening leaves an extended real as it is. -/
theorem extf_eq {s : Shape} (v : FVec Ideal s .bf16) (h) (j : s.Idx) : (extf .f32 v h : FVec Ideal s .f32) j = v j := rfl

/-- A row set on top of nothing, read at a column. -/
theorem bcast_row {α : Type} (v : S256.Idx → α) (j : Fin 256) :
    broadcastInDim S1x256 ![1] bcast_S256_S1x256_1 v (ix2 (0 : Fin 1) j : S1x256.Idx) = v (ix1 j) :=
  broadcastInDim_apply _ _ _ _ _ (fun a => by fin_cases a; rfl)

/-- The reference computes it. -/
theorem refOut_eq (x : FVec Ideal S2048x256 .bf16) (r : Fin 256 → Fin 2048) (hr : ∀ j, IsFirst (col x j) (r j)) :
    refOut x = value x r := by
  funext i
  have b0 : (i 0).val < 2 := (i 0).isLt
  unfold refOut stack value
  by_cases h : (i 0).val = 0
  · rw [if_pos h, concatenate_pair_apply_left (t := S2x256) (s₁ := S1x256) (s₂ := S1x256) (0 : Fin 2) _ _ _ i rfl (ix2 (0 : Fin 1) (i 1) : S1x256.Idx) (fun b => by
      fin_cases b
      · exact h.symm
      · rfl)]
    exact (bcast_row _ (i 1)).trans ((extf_eq _ _ _).trans (maxRow_eq x (ix1 (i 1)) (hr (i 1))))
  · rw [if_neg h, concatenate_pair_apply_right (t := S2x256) (s₁ := S1x256) (s₂ := S1x256) (0 : Fin 2) _ _ _ i rfl rfl (ix2 (0 : Fin 1) (i 1) : S1x256.Idx) (fun b hb => by
      fin_cases b
      · exact absurd rfl hb
      · rfl) (show 0 + 1 = (i 0).val by omega)]
    refine (bcast_row _ (i 1)).trans ?_
    show ((((argRow x (ix1 (i 1))).toInt : ℤ) : ℝ) : EReal) = _
    rw [argRow_eq x (ix1 (i 1)) (hr (i 1)), toInt_ofNat (by have := (r (i 1)).isLt; omega)]
    norm_cast

end Cert.RefValue

end
-- ==== Proof.KerValue.lean ====
module

public import proofs.«01_k».proof.Proof.Slots
public import proofs.«01_k».proof.Proof.RefValue

/-!
# The kernel's value

Over the extended reals: what a device computes of its block, what the merge makes of the gathered candidates.
-/

@[expose] public section

set_option maxRecDepth 16384

noncomputable section

namespace Cert.KerValue

open Cert.KernelIdeal Cert.KernelIdeal.Gen Cert.ExchangeProof Cert.FirstRow
open Cert.RefValue (ofBits_bot16 ofBits_bot32 ofBits_top32 ofBits_4096 value)
open Idealize.ShloMosaic Idealize.ShloMosaic.ValueIdx Idealize.ShloMosaic.TcCoe

/-! ## Layout operations at an index -/

section Layout

variable {α : Type}

/-- A row given one leading unit axis, -/
theorem cast_row (v : S256.Idx → α) (h) (j : Fin 256) : shapeCast S1x256 v h (ix2 (0 : Fin 1) j : S1x256.Idx) = v (ix1 j) :=
  shapeCast_apply v h _ _ (by rw [Shape.rowMajor_val_one, Shape.rowMajor_val_two]; show j.val = 0 * 256 + j.val; omega)

/-- two, -/
theorem cast_row2 (v : S256.Idx → α) (h) (j : Fin 256) :
    shapeCast S1x1x256 v h (ix3 (0 : Fin 1) (0 : Fin 1) j : S1x1x256.Idx) = v (ix1 j) :=
  shapeCast_apply v h _ _ (by rw [Shape.rowMajor_val_one, Shape.rowMajor_val_three]; show j.val = (0 * 1 + 0) * 256 + j.val; omega)

/-- a slot's rows with the unit axis between dropped, -/
theorem cast_slots (v : S8x1x256.Idx → α) (h) (s : Fin 8) (j : Fin 256) :
    shapeCast S8x256 v h (ix2 s j : S8x256.Idx) = v (ix3 s (0 : Fin 1) j) :=
  shapeCast_apply v h _ _ (by rw [Shape.rowMajor_val_three, Shape.rowMajor_val_two]; show (s.val * 1 + 0) * 256 + j.val = s.val * 256 + j.val; omega)

/-- a row repeated over 256 rows, -/
theorem bcast_256 (v : S1x256.Idx → α) (h) (k j : Fin 256) :
    broadcastTo S256x256 v h (ix2 k j : S256x256.Idx) = v (ix2 (0 : Fin 1) j) :=
  broadcastTo_apply v h _ _ (fun a => by fin_cases a <;> rfl)

/-- over 8. -/
theorem bcast_8 (v : S1x256.Idx → α) (h) (s : Fin 8) (j : Fin 256) :
    broadcastTo S8x256 v h (ix2 s j : S8x256.Idx) = v (ix2 (0 : Fin 1) j) :=
  broadcastTo_apply v h _ _ (fun a => by fin_cases a <;> rfl)

/-- The index over a column's number, at a row of a block, -/
theorem lift_256 (j k : Fin 256) : reduces_S256x256_S256.lift (ix1 j) k = ix2 k j := by
  funext a
  fin_cases a <;> rfl

/-- at a slot. -/
theorem lift_8 (j : Fin 256) (s : Fin 8) : reduces_S8x256_S256.lift (ix1 j) s = ix2 s j := by
  funext a
  fin_cases a <;> rfl

end Layout

/-! ## What a device computes of its block -/

section Block

variable (v : S256x256.Idx → Ideal .bf16) (j : Fin 256) {r : Fin 256} (hr : IsFirst (fun k => (v (ix2 k j) : EReal)) r)

/-- The block as loaded is the block. -/
theorem pay1_eq : k0_pay1 (F := Ideal) v = v := by
  funext i
  exact shapeCast_apply v _ _ _ rfl

include hr

/-- The block's maxima. -/
theorem pay2_eq : (k0_pay2 (F := Ideal) v (ix1 j) : EReal) = v (ix2 r j) := by
  unfold k0_pay2
  refine (Ideal.multiReduction_maximumf_single v _ _ _ _ _).trans ?_
  rw [show v ∘ reduces_S256x256_S256.lift (ix1 j) = fun k : Fin 256 => v (ix2 k j) from funext fun k => congrArg v (lift_256 j k)]
  show (Finset.univ : Finset (Fin 256)).fold max (Ideal.ofBits .bf16 0xFF80#16) _ = _
  rw [ofBits_bot16]
  exact hr.fold_max

/-- The first row a device stores. -/
theorem pay3_eq : (k0_pay3 (F := Ideal) v (ix3 (0 : Fin 1) (0 : Fin 1) j) : EReal) = v (ix2 r j) := by
  unfold k0_pay3
  exact (cast_row2 _ _ j).trans ((Cert.RefValue.extf_eq _ _ _).trans (pay2_eq v j hr))

/-- The least row number of the block at which a column attains its maximum. -/
theorem local_eq (w : S256x256.Idx → BitVec 32)
    (hw : ∀ k : Fin 256, w (ix2 k j) = if (v (ix2 k j) : EReal) = v (ix2 r j) then BitVec.ofNat 32 k.val else 256#32) :
    multiReductionI .minsi [0] S256 w 2147483647#32 reduces_S256x256_S256 rfl (ix1 j) = BitVec.ofNat 32 r.val := by
  refine (multiReductionI_eq_fold _ _ _ _ _ _).trans ?_
  rw [Shape.Reduces.fold_filter_drop_single]
  rw [show w ∘ reduces_S256x256_S256.lift (ix1 j) = fun k : Fin 256 => w (ix2 k j) from funext fun k => congrArg w (lift_256 j k)]
  exact hr.fold_min _ hw

/-- The second row device `s` stores: the row numbers, counted over all devices' rows. -/
theorem pay4_eq (s : Fin 8) :
    (k0_pay4 (F := Ideal) (BitVec.ofNat 32 s.val) v (iota .tc S256x256 32 [0] iota_S256x256_d0_w32) (ix3 (0 : Fin 1) (0 : Fin 1) j) : EReal)
      = (((row s r).val : ℝ) : EReal) := by
  unfold k0_pay4
  refine (cast_row2 _ _ j).trans ?_
  generalize hl : multiReductionI .minsi [0] S256 _ 2147483647#32 reduces_S256x256_S256 rfl = l
  have e : l (ix1 j) = BitVec.ofNat 32 r.val := by
    rw [← hl]
    refine local_eq v j hr _ fun k => ?_
    show Scalar.select (Ideal.cmp .oeq (v (ix2 k j)) (broadcastTo S256x256 _ broadcasts_S1x256_S256x256 (ix2 k j)))
      (iota .tc S256x256 32 [0] iota_S256x256_d0_w32 (ix2 k j)) 256#32 = _
    rw [bcast_256, cast_row, pay2_eq v j hr, iota_single_apply]
    unfold Scalar.select Ideal.cmp
    by_cases h : (v (ix2 k j) : EReal) = v (ix2 r j)
    · simp [h]
    · simp [h]
  show (((IntOp.addi (IntOp.muli (BitVec.ofNat 32 s.val) 256#32) (l (ix1 j))).toInt : ℝ) : EReal) = _
  rw [e, show IntOp.addi (IntOp.muli (BitVec.ofNat 32 s.val) 256#32) (BitVec.ofNat 32 r.val) = BitVec.ofNat 32 (row s r).val from by
    show BitVec.ofNat 32 s.val * BitVec.ofNat 32 256 + BitVec.ofNat 32 r.val = BitVec.ofNat 32 (s.val * 256 + r.val)
    rw [BitVec.ofNat_add, BitVec.ofNat_mul], toInt_ofNat (by have := (row s r).isLt; omega)]
  norm_cast

end Block

/-! ## What the merge makes of the candidates -/

section Merge

variable (a b : S8x1x256.Idx → Ideal .f32) (x : Fin 2048 → EReal) (j : Fin 256) {r : Fin 2048} (hr : IsFirst x r) {loc : Fin 8 → Fin 256}
  (hloc : ∀ s, IsFirst (fun k => x (row s k)) (loc s))
  (ha : ∀ s : Fin 8, (a (ix3 s (0 : Fin 1) j) : EReal) = x (row s (loc s)))
  (hb : ∀ s : Fin 8, (b (ix3 s (0 : Fin 1) j) : EReal) = (((row s (loc s)).val : ℝ) : EReal))

include hr hloc ha

/-- The maximum of the candidates. -/
theorem pay7_eq : (k0_pay7 (F := Ideal) a (ix1 j) : EReal) = x r := by
  unfold k0_pay7
  refine (Ideal.multiReduction_maximumf_single _ _ _ _ _ _).trans ?_
  rw [show k0_pay5 (F := Ideal) a ∘ reduces_S8x256_S256.lift (ix1 j) = fun s : Fin 8 => x (row s (loc s)) from funext fun (s : Fin 8) =>
    (congrArg (k0_pay5 (F := Ideal) a) (lift_8 j s)).trans ((cast_slots a _ s j).trans (ha s))]
  show (Finset.univ : Finset (Fin 8)).fold max (Ideal.ofBits .f32 0xFF800000#32) _ = _
  rw [ofBits_bot32]
  exact merge_max hr hloc

include hb

/-- The least of the row numbers of the candidates attaining it. -/
theorem pay11_eq :
    (k0_pay11 (F := Ideal) (k0_pay6 (F := Ideal) b) (k0_pay8 (F := Ideal) a) k0_pay9 (ix2 (0 : Fin 1) j) : EReal) = ((r.val : ℝ) : EReal) := by
  unfold k0_pay11
  refine (cast_row _ _ j).trans ?_
  refine (multiReduction_minimumf_eq_fold _ _ _ _ _ _).trans ?_
  rw [Shape.Reduces.fold_filter_drop_single]
  show (Finset.univ : Finset (Fin 8)).fold min (Ideal.ofBits .f32 0x7F800000#32) _ = _
  rw [ofBits_top32]
  refine merge_min hr hloc _ fun s => ?_
  refine (congrArg (select (k0_pay8 (F := Ideal) a) (k0_pay6 (F := Ideal) b) k0_pay9) (lift_8 j s)).trans ?_
  show Scalar.select (k0_pay8 (F := Ideal) a (ix2 s j)) (k0_pay6 (F := Ideal) b (ix2 s j)) (Ideal.ofBits .f32 0x45800000#32) = _
  have e6 : k0_pay6 (F := Ideal) b (ix2 s j) = (((row s (loc s)).val : ℝ) : EReal) := by
    unfold k0_pay6
    exact (cast_slots b _ s j).trans (hb s)
  have e8 : k0_pay8 (F := Ideal) a (ix2 s j) = BitVec.ofBool (decide (x (row s (loc s)) = x r)) := by
    unfold k0_pay8
    show Ideal.cmp .oeq (k0_pay5 (F := Ideal) a (ix2 s j)) (broadcastTo S8x256 _ broadcasts_S1x256_S8x256 (ix2 s j)) = _
    rw [bcast_8, cast_row, pay7_eq a x j hr hloc ha]
    unfold k0_pay5
    rw [cast_slots, ha s]
    rfl
  rw [e6, e8, ofBits_4096]
  unfold Scalar.select
  by_cases h : x (row s (loc s)) = x r <;> simp [h]

end Merge

/-! ## The result -/

section Result

variable (m : (ℓ : Loc nD τ sig) → Buf (Elt Ideal) ℓ) (ρ : Dev nD → PrngReg)

/-- A device's position, as its word. -/
theorem myW_eq (s : Dev nD) : myW s = BitVec.ofNat 32 s.val := by
  revert s; decide

/-- The candidates as loaded: the first rows, -/
theorem gMax_apply (s : Fin 8) (j : Fin 256) : gMax m ρ (ix3 s (0 : Fin 1) j) = rowMax m ρ s (ix3 (0 : Fin 1) (0 : Fin 1) j) := by
  have e : (Rect.unit (s := S8x2x256) ![0, 0, 0] S8x1x256.size inb_S8x2x256_S8x1x256_0_0_0).emb (ix3 s (0 : Fin 1) j) = (ix3 s (0 : Fin 2) j : S8x2x256.Idx) := by
    funext a
    refine Fin.ext ?_
    fin_cases a
    · show 0 + 1 * s.val = s.val; omega
    · rfl
    · show 0 + 1 * j.val = j.val; omega
  show gath m ρ ((Rect.unit (s := S8x2x256) ![0, 0, 0] S8x1x256.size inb_S8x2x256_S8x1x256_0_0_0).emb (ix3 s (0 : Fin 1) j)) = _
  rw [e]
  rfl

/-- the second. -/
theorem gIdx_apply (s : Fin 8) (j : Fin 256) : gIdx m ρ (ix3 s (0 : Fin 1) j) = rowIdx m ρ s (ix3 (0 : Fin 1) (0 : Fin 1) j) := by
  have e : (Rect.unit (s := S8x2x256) ![0, 1, 0] S8x1x256.size inb_S8x2x256_S8x1x256_0_1_0).emb (ix3 s (0 : Fin 1) j) = (ix3 s (1 : Fin 2) j : S8x2x256.Idx) := by
    funext a
    refine Fin.ext ?_
    fin_cases a
    · show 0 + 1 * s.val = s.val; omega
    · rfl
    · show 0 + 1 * j.val = j.val; omega
  show gath m ρ ((Rect.unit (s := S8x2x256) ![0, 1, 0] S8x1x256.size inb_S8x2x256_S8x1x256_0_1_0).emb (ix3 s (0 : Fin 1) j)) = _
  rw [e]
  rfl

section Whole

variable (x : Cert.ReferenceIdeal.S2048x256.Idx → Ideal .bf16)
  (hx : ∀ (s : Fin 8) (k j : Fin 256), xstg m ρ s (ix2 k j : S256x256.Idx) = x (ix2 (row s k) j))
  (j : Fin 256) {r : Fin 2048} (hr : IsFirst (Cert.RefValue.col x j) r)
  {loc : Fin 8 → Fin 256} (hloc : ∀ s, IsFirst (fun k => Cert.RefValue.col x j (row s k)) (loc s))

include hx hloc

/-- The first maximal row of a part is that of the device's block. -/
theorem block_first (s : Fin 8) : IsFirst (fun k => (xstg m ρ s (ix2 k j : S256x256.Idx) : EReal)) (loc s) := by
  simp only [hx]
  exact hloc s

/-- The candidates are the parts' maxima, -/
theorem gMax_eq (s : Fin 8) : (gMax m ρ (ix3 s (0 : Fin 1) j) : EReal) = Cert.RefValue.col x j (row s (loc s)) := by
  rw [gMax_apply]
  unfold rowMax
  rw [pay1_eq]
  exact (pay3_eq _ _ (block_first m ρ x hx j hloc s)).trans (hx s _ _)

/-- and the first rows attaining them. -/
theorem gIdx_eq (s : Fin 8) : (gIdx m ρ (ix3 s (0 : Fin 1) j) : EReal) = (((row s (loc s)).val : ℝ) : EReal) := by
  rw [gIdx_apply]
  unfold rowIdx
  rw [pay1_eq, myW_eq]
  exact pay4_eq _ _ (block_first m ρ x hx j hloc s) s

include hr

/-- The result's first row; -/
theorem out_max : (k0_pay10 (F := Ideal) (k0_pay7 (gMax m ρ)) (ix2 (0 : Fin 1) j) : EReal) = x (ix2 r j) :=
  (cast_row _ _ j).trans (pay7_eq _ _ _ hr hloc (gMax_eq m ρ x hx j hloc))

/-- the second. -/
theorem out_idx : (k0_pay11 (F := Ideal) (k0_pay6 (gIdx m ρ)) (k0_pay8 (gMax m ρ)) k0_pay9 (ix2 (0 : Fin 1) j) : EReal) = ((r.val : ℝ) : EReal) :=
  pay11_eq _ _ _ _ hr hloc (gMax_eq m ρ x hx j hloc) (gIdx_eq m ρ x hx j hloc)

end Whole

/-- Where device `s`'s block is the whole array's part `s`, every device's result is the reference's value. -/
theorem outAt_eq (x : Cert.ReferenceIdeal.S2048x256.Idx → Ideal .bf16)
    (hx : ∀ (s : Fin 8) (k j : Fin 256), xstg m ρ s (ix2 k j : S256x256.Idx) = x (ix2 (row s k) j))
    (r : Fin 256 → Fin 2048) (hr : ∀ j, IsFirst (Cert.RefValue.col x j) (r j)) : outAt m ρ = value x r := by
  funext (i : S2x256.Idx)
  have hex : ∀ j s, ∃ k, IsFirst (fun k => Cert.RefValue.col x j (row s k)) k := fun j s => exists_first _
  unfold outAt value
  by_cases h : (i 0).val = 0
  · rw [if_pos h, if_pos h]
    exact out_max m ρ x hx (i 1) (hr (i 1)) (fun s => (hex (i 1) s).choose_spec)
  · rw [if_neg h, if_neg h]
    exact out_idx m ρ x hx (i 1) (hr (i 1)) (fun s => (hex (i 1) s).choose_spec)

end Result

end Cert.KerValue

end
-- ==== Proof.Claims.lean ====
module

public import proofs.«01_k».proof.Defs
public import proofs.«01_k».proof.Proof.Gen.Kernel
public import proofs.«01_k».proof.Proof.Launch
public import proofs.«01_k».proof.Proof.KerValue

/-!
# The claims, each from a run

The kernel's run is one for any float values: read at the bit-exact ones it is the program's frame, at the extended reals
the idealized program's frame and half of the value claim.
-/

@[expose] public section

set_option maxRecDepth 65536

noncomputable section

namespace Cert.Claims

open Cert.KernelIdeal Cert.KernelIdeal.Gen Cert.ExchangeProof
open Idealize.ShloMosaic Idealize.ShloMosaic.TcCoe Idealize.ShloMosaic.ValueIdx Idealize.SL.Sem

section Arrays

variable {F : FTy → Type} [FloatOps F] (m : (ℓ : Loc nD τ sig) → Buf (Elt F) ℓ) (ρ : Dev nD → PrngReg)

/-- The argument window's one block is the whole array. -/
theorem xstg_eq (c : Dev nD) : xstg m ρ c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

/-- The result's array ends holding what each device stores. -/
theorem finalA_out (c : Dev nD) : finalA m ρ c (1 : Fin 2) = outAt m ρ := by
  refine (Memref.read_access_unit_zero (Elt F) main_v1
    (show (fun a => (win0_1.index (0 : Fin 1)) a * main_v1.ty.shape.size a) = fun _ => 0 from funext fun a => by fin_cases a <;> decide)
    (fun a => by fin_cases a <;> decide) (finalA m ρ c (1 : Fin 2))).symm.trans ?_
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

end Arrays

/-- The two programs' body tables are one: each label's body has the same text. -/
theorem bodies_eq : Cert.Kernel.defs₀ (F := Bits) = Cert.KernelIdeal.defs₀ (F := Bits) :=
  congrArg Defs.onTc (funext fun l => funext fun a => by
    match l, a with
    | 0, (t, s) => rfl
    | ⟨_ + 1, h⟩, _ => exact absurd h (Nat.not_lt.2 (Nat.le_add_left _ _)))

/-- The run at the bit-exact values, of any body table equal to the kernel's. -/
theorem frame_of_bodies (m : (ℓ : Loc nD τ sig) → Buf (Elt Bits) ℓ) (ρ : Dev nD → PrngReg)
    (bodies : Defs nD τ sig (Elt Bits) Λ₀) (hb : bodies = defs₀ (F := Bits)) :
    (θ_run (Pipeline.defs (pcfgs (F := Bits)) bodies) (onTc main) { mem := m, sem := fun _ => 0, prng := ρ })
      (fun r => (∀ c : Dev nD, r.2.mem (c.tc.loc main_arg0) = m (c.tc.loc main_arg0)) ∧ r.2.sem = fun _ => 0) := by
  subst hb
  exact (θ_run Cert.KernelIdeal.defs _ _).mono (fun _ h => ⟨fun c => (h.1 c (0 : Fin 2)).trans (finalA_x m ρ c), h.2⟩)
    (run_main (F := Bits) m ρ)

/-- The bit-exact program's frame. -/
theorem frame_kernel : Cert.quiescent_Kernel := fun m ρ _ =>
  frame_of_bodies m ρ (Cert.Kernel.defs₀ (F := Bits)) bodies_eq

/-- The idealized program's frame. -/
theorem frame_kernelIdeal : Cert.quiescent_KernelIdeal := fun m ρ _ =>
  (θ_run Cert.KernelIdeal.defs _ _).mono (fun _ h => ⟨fun c => (h.1 c (0 : Fin 2)).trans (finalA_x m ρ c), h.2⟩)
    (run_main (F := Ideal) m ρ)

/-- The reference's frame. -/
theorem frame_reference : Cert.quiescent_ReferenceIdeal := fun m ρ _ =>
  (θ_run Cert.ReferenceIdeal.defs _ _).mono (fun _ h => ⟨fun c => (h.1 c).2, h.2⟩) (Cert.ReferenceProof.run_main (F := Ideal) m ρ)

/-- No operation of the program was rewritten. -/
theorem preserves : Cert.preserves_Kernel_KernelIdeal := trivial

/-- On every device the kernel's result is the reference's. -/
theorem algebraic : Cert.algebraic_KernelIdeal_ReferenceIdeal := by
  intro m ρ m' ρ' _ hagree
  refine ⟨Cert.ReferenceProof.refOut (F := Ideal)
    (m' (((0 : Dev Cert.ReferenceIdeal.nD).tc : Thread _ Cert.ReferenceIdeal.τ).loc Cert.ReferenceIdeal.main_arg0)), ?_, ?_⟩
  · generalize hx : m' (((0 : Dev Cert.ReferenceIdeal.nD).tc : Thread _ Cert.ReferenceIdeal.τ).loc Cert.ReferenceIdeal.main_arg0) = x at hagree
    have hex : ∀ j, ∃ r, Cert.FirstRow.IsFirst (Cert.RefValue.col x j) r := fun j => Cert.FirstRow.exists_first _
    have hr := fun j => (hex j).choose_spec
    have hv : outAt m ρ = Cert.ReferenceProof.refOut (F := Ideal) x :=
      (Cert.KerValue.outAt_eq m ρ x (fun s k j => by
        rw [xstg_eq, hagree s]
        refine congrArg x (funext fun a => Fin.ext ?_)
        fin_cases a <;> rfl) _ hr).trans (Cert.RefValue.refOut_eq x _ hr).symm
    exact (θ_run Cert.KernelIdeal.defs _ _).mono
      (fun _ h c => ⟨(h.1 c (1 : Fin 2)).trans ((finalA_out m ρ c).trans hv), (h.1 c (0 : Fin 2)).trans (finalA_x m ρ c)⟩)
      (run_main (F := Ideal) m ρ)
  · exact (θ_run Cert.ReferenceIdeal.defs _ _).mono (fun _ h => h.1 0) (Cert.ReferenceProof.run_main (F := Ideal) m' ρ')

end Cert.Claims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims

@[expose] public section

noncomputable section

namespace Cert.Proof

/-- The five claims together. -/
theorem claim : Cert.Claim :=
  ⟨Cert.Kernel.Gen.facts, Cert.KernelIdeal.Gen.facts, Cert.ReferenceIdeal.Gen.facts, Cert.Claims.frame_kernel,
    Cert.Claims.frame_kernelIdeal, Cert.Claims.frame_reference, Cert.Claims.preserves, Cert.Claims.algebraic⟩

end Cert.Proof

end
